-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xFF000000#32 ⊥
  ∧ IdealRules.named_const.Statement Cert.KernelIdeal.κ "exp2_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x56x1024x128 : Shape := ⟨4, ![5, 56, 1024, 128]⟩
abbrev S5x4x6144x128 : Shape := ⟨4, ![5, 4, 6144, 128]⟩
abbrev S5x4x128x6144 : Shape := ⟨4, ![5, 4, 128, 6144]⟩
abbrev S5 : Shape := ⟨1, ![5]⟩
abbrev S5x24x1024x128 : Shape := ⟨4, ![5, 24, 1024, 128]⟩
abbrev S5x80x1024x128 : Shape := ⟨4, ![5, 80, 1024, 128]⟩
abbrev S_ : Shape := ⟨0, ![]⟩
abbrev S5x1x1x1 : Shape := ⟨4, ![5, 1, 1, 1]⟩

class Facts : Prop where
  shapeCasts_S5x4x6144x128_S5x24x1024x128 : S5x4x6144x128.ShapeCasts S5x24x1024x128
  concatenates_S5x56x1024x128_S5x24x1024x128_S5x80x1024x128_d1 : Shape.Concatenates [S5x56x1024x128, S5x24x1024x128] S5x80x1024x128 1
  bcast_S_S5 : S_.BroadcastsInDim S5 (![] : Fin 0 → Fin S5.rank)
  bcast_S5_S5x1x1x1_0 : S5.BroadcastsInDim S5x1x1x1 (![0] : Fin 1 → Fin S5x1x1x1.rank)
  bitsLt_bf16_f32 : FTy.bits .bf16 < FTy.bits .f32
  bcast_S_S5x80x1024x128 : S_.BroadcastsInDim S5x80x1024x128 (![] : Fin 0 → Fin S5x80x1024x128.rank)
  bcast_S5x1x1x1_S5x80x1024x128_0_1_2_3 : S5x1x1x1.BroadcastsInDim S5x80x1024x128 (![0, 1, 2, 3] : Fin 4 → Fin S5x80x1024x128.rank)

variable [Facts]

def fn {F : FTy → Type} [FloatOps F] (main_arg0 : FVec F S5x56x1024x128 .bf16) (main_arg1 : FVec F S5x4x6144x128 .bf16) (main_arg2 : FVec F S5x4x128x6144 .bf16) (main_arg3 : IVec S5 32) : IVec S5x80x1024x128 1 :=
  let main_v0 : FVec F S5x24x1024x128 .bf16 := shapeCast S5x24x1024x128 main_arg1 shapeCasts_S5x4x6144x128_S5x24x1024x128
  let main_v1 : FVec F S5x80x1024x128 .bf16 := (fun a b => concatenate S5x80x1024x128 1 [⟨S5x56x1024x128, a⟩, ⟨S5x24x1024x128, b⟩] concatenates_S5x56x1024x128_S5x24x1024x128_S5x80x1024x128_d1) main_arg0 main_v0
  let main_c : IVec S_ 32 := constantI S_ 32 1#32
  let main_v2 : IVec S5 32 := broadcastInDim S5 ![] bcast_S_S5 main_c
  let main_v3 : IVec S5 1 := cmpi .sge main_arg3 main_v2
  let main_c_0 : IVec S_ 32 := constantI S_ 32 6144#32
  let main_v4 : IVec S5 32 := broadcastInDim S5 ![] bcast_S_S5 main_c_0
  let main_v5 : IVec S5 1 := cmpi .sle main_arg3 main_v4
  let main_v6 : IVec S5 1 := andi main_v3 main_v5
  let main_v7 : IVec S5x1x1x1 1 := broadcastInDim S5x1x1x1 ![0] bcast_S5_S5x1x1x1_0 main_v6
  let main_v8 : FVec F S5x80x1024x128 .f32 := (extf .f32 · bitsLt_bf16_f32) main_v1
  let main_v9 : FVec F S5x80x1024x128 .f32 := Host.absf main_v8
  let main_cst : FVec F S_ .f32 := constant S_ .f32 0x7F7F0000#32
  let main_v10 : FVec F S5x80x1024x128 .f32 := broadcastInDim S5x80x1024x128 ![] bcast_S_S5x80x1024x128 main_cst
  let main_v11 : IVec S5x80x1024x128 1 := cmpf .ole main_v9 main_v10
  let main_v12 : IVec S5x80x1024x128 1 := broadcastInDim S5x80x1024x128 ![0, 1, 2, 3] bcast_S5x1x1x1_S5x80x1024x128_0_1_2_3 main_v7
  let main_v13 : IVec S5x80x1024x128 1 := andi main_v12 main_v11
  main_v13
-- ==== Pre_in_range.lean ====
abbrev S5x56x1024x128 : Shape := ⟨4, ![5, 56, 1024, 128]⟩
abbrev S5x4x6144x128 : Shape := ⟨4, ![5, 4, 6144, 128]⟩
abbrev S5x4x128x6144 : Shape := ⟨4, ![5, 4, 128, 6144]⟩
abbrev S5 : Shape := ⟨1, ![5]⟩
abbrev S_ : Shape := ⟨0, ![]⟩

class Facts : Prop where
  bcast_S_S5 : S_.BroadcastsInDim S5 (![] : Fin 0 → Fin S5.rank)

variable [Facts]

def fn {F : FTy → Type} [FloatOps F] (main_arg0 : FVec F S5x56x1024x128 .bf16) (main_arg1 : FVec F S5x4x6144x128 .bf16) (main_arg2 : FVec F S5x4x128x6144 .bf16) (main_arg3 : IVec S5 32) : IVec S5 1 :=
  let main_c : IVec S_ 32 := constantI S_ 32 6144#32
  let main_v0 : IVec S5 32 := broadcastInDim S5 ![] bcast_S_S5 main_c
  let main_v1 : IVec S5 1 := cmpi .sle main_arg3 main_v0
  main_v1
-- ==== Kernel.lean ====
abbrev S5x56x1024x128 : Shape := ⟨4, ![5, 56, 1024, 128]⟩
abbrev S5x4x6144x128 : Shape := ⟨4, ![5, 4, 6144, 128]⟩
abbrev S5x4x128x6144 : Shape := ⟨4, ![5, 4, 128, 6144]⟩
abbrev S5 : Shape := ⟨1, ![5]⟩
abbrev S5x28x4x2048 : Shape := ⟨4, ![5, 28, 4, 2048]⟩
abbrev S1x1x1024x128 : Shape := ⟨4, ![1, 1, 1024, 128]⟩
abbrev S1x1x6144x128 : Shape := ⟨4, ![1, 1, 6144, 128]⟩
abbrev S1x1x128x6144 : Shape := ⟨4, ![1, 1, 128, 6144]⟩
abbrev S1x1x4x1024 : Shape := ⟨4, ![1, 1, 4, 1024]⟩
abbrev S256x1024 : Shape := ⟨2, ![256, 1024]⟩
abbrev S6144x1024 : Shape := ⟨2, ![6144, 1024]⟩
abbrev S6144x128 : Shape := ⟨2, ![6144, 128]⟩
abbrev S128x1024 : Shape := ⟨2, ![128, 1024]⟩
abbrev S1 : Shape := ⟨1, ![1]⟩
abbrev S1024x128 : Shape := ⟨2, ![1024, 128]⟩
abbrev S4x32x1024 : Shape := ⟨3, ![4, 32, 1024]⟩
abbrev S4x1024 : Shape := ⟨2, ![4, 1024]⟩
abbrev S4x1x1024 : Shape := ⟨3, ![4, 1, 1024]⟩
abbrev S8x1024 : Shape := ⟨2, ![8, 1024]⟩
abbrev S1x1x256x128 : Shape := ⟨4, ![1, 1, 256, 128]⟩
abbrev S256x128 : Shape := ⟨2, ![256, 128]⟩
abbrev S256x256 : Shape := ⟨2, ![256, 256]⟩
abbrev S32x8x1024 : Shape := ⟨3, ![32, 8, 1024]⟩
abbrev S1024 : Shape := ⟨1, ![1024]⟩
abbrev S1x1024 : Shape := ⟨2, ![1, 1024]⟩
abbrev S1x1x128x256 : Shape := ⟨4, ![1, 1, 128, 256]⟩
abbrev S128x256 : Shape := ⟨2, ![128, 256]⟩

abbrev nBuf : Space → Nat
  | .hbm => 6
  | .vmem => 16
  | .smem => 1
  | _ => 0

abbrev bufTy : (tb : Table) → Fin (tcTables nBuf tb) → BufTy
  | .hbm, ⟨0, _⟩ => ⟨S5x56x1024x128, .bf16⟩
  | .hbm, ⟨1, _⟩ => ⟨S5x4x6144x128, .bf16⟩
  | .hbm, ⟨2, _⟩ => ⟨S5x4x128x6144, .bf16⟩
  | .hbm, ⟨3, _⟩ => ⟨S5x56x1024x128, .bf16⟩
  | .hbm, ⟨4, _⟩ => ⟨S5x56x1024x128, .fp8e4m3⟩
  | .hbm, ⟨5, _⟩ => ⟨S5x28x4x2048, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x6144x128, .bf16⟩
  | .local _ .vmem, ⟨3, _⟩ => ⟨S1x1x6144x128, .bf16⟩
  | .local _ .vmem, ⟨4, _⟩ => ⟨S1x1x128x6144, .bf16⟩
  | .local _ .vmem, ⟨5, _⟩ => ⟨S1x1x128x6144, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1x1x1024x128, .fp8e4m3⟩
  | .local _ .vmem, ⟨9, _⟩ => ⟨S1x1x1024x128, .fp8e4m3⟩
  | .local _ .vmem, ⟨10, _⟩ => ⟨S1x1x4x1024, .f32⟩
  | .local _ .vmem, ⟨11, _⟩ => ⟨S1x1x4x1024, .f32⟩
  | .local _ .vmem, ⟨12, _⟩ => ⟨S256x1024, .bf16⟩
  | .local _ .vmem, ⟨13, _⟩ => ⟨S6144x1024, .f32⟩
  | .local _ .vmem, ⟨14, _⟩ => ⟨S6144x128, .bf16⟩
  | .local _ .vmem, ⟨15, _⟩ => ⟨S128x1024, .f32⟩
  | .local _ .smem, ⟨0, _⟩ => ⟨S5, .i32⟩
  | _, _ => ⟨S5x56x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 56], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let c1_i32_42 : BitVec 32 := 1#32
  ⟨c0_i32_40, v144, c1_i32_42⟩

def k0_mult1 (v1 : BitVec 32) (k0_t1 : Fin (k0_t1_loop v1).trips) : BitVec 32 :=
  let c0_i32_40 : BitVec 32 := 0#32
  let c1_i32_42 : BitVec 32 := 1#32
  let arg13 : BitVec 32 := Scf.iv c0_i32_40 c1_i32_42 k0_t1
  let c256_i32_63 : BitVec 32 := 256#32
  let v177 : BitVec 32 := Scalar.muli arg13 c256_i32_63
  v177
def k0_off2 (v1 : BitVec 32) (k0_t1 : Fin (k0_t1_loop v1).trips) : Fin 4 → Nat :=
  let c0_64 : Index := 0#32
  let c0_65 : Index := 0#32
  let c0_i32_40 : BitVec 32 := 0#32
  let c1_i32_42 : BitVec 32 := 1#32
  let arg13 : BitVec 32 := Scf.iv c0_i32_40 c1_i32_42 k0_t1
  let c256_i32_63 : BitVec 32 := 256#32
  let v177 : BitVec 32 := Scalar.muli arg13 c256_i32_63
  let v178 : BitVec 32 := v177
  let v179 : Index := Scalar.indexCast v178
  let c0_66 : Index := 0#32
  ![0, 0, v179.toNat, 0]
def k0_off3 (v1 : BitVec 32) (k0_t1 : Fin (k0_t1_loop v1).trips) : Fin 2 → Nat :=
  let c0_i32_40 : BitVec 32 := 0#32
  let c1_i32_42 : BitVec 32 := 1#32
  let arg13 : BitVec 32 := Scf.iv c0_i32_40 c1_i32_42 k0_t1
  let c256_i32_63 : BitVec 32 := 256#32
  let v177 : BitVec 32 := Scalar.muli arg13 c256_i32_63
  let v178 : BitVec 32 := v177
  let v182 : Index := Scalar.indexCast v178
  let c0_67 : Index := 0#32
  ![v182.toNat, 0]
def k0_off4 (v1 : BitVec 32) (k0_t1 : Fin (k0_t1_loop v1).trips) : Fin 2 → Nat :=
  let c0_i32_40 : BitVec 32 := 0#32
  let c1_i32_42 : BitVec 32 := 1#32
  let arg13 : BitVec 32 := Scf.iv c0_i32_40 c1_i32_42 k0_t1
  let c256_i32_63 : BitVec 32 := 256#32
  let v177 : BitVec 32 := Scalar.muli arg13 c256_i32_63
  let v178 : BitVec 32 := v177
  let v187 : Index := Scalar.indexCast v178
  let c0_71 : Index := 0#32
  ![v187.toNat, 0]
@[reducible] def k0_t2_loop (v1 : BitVec 32) : Scf.Loop 32 :=
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let v141 : BitVec 32 := Scalar.addi c0_i32_40 v140
  let c1_i32_43 : BitVec 32 := 1#32
  ⟨v144, v141, c1_i32_43⟩
def k0_mult2 (v1 : BitVec 32) (k0_t2 : Fin (k0_t2_loop v1).trips) : BitVec 32 :=
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let c1_i32_43 : BitVec 32 := 1#32
  let arg13 : BitVec 32 := Scf.iv v144 c1_i32_43 k0_t2
  let c256_i32_63 : BitVec 32 := 256#32
  let v177 : BitVec 32 := Scalar.muli arg13 c256_i32_63
  v177
def k0_off5 (v1 : BitVec 32) (k0_t2 : Fin (k0_t2_loop v1).trips) : Fin 4 → Nat :=
  let c0_64 : Index := 0#32
  let c0_65 : Index := 0#32
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let c1_i32_43 : BitVec 32 := 1#32
  let arg13 : BitVec 32 := Scf.iv v144 c1_i32_43 k0_t2
  let c256_i32_63 : BitVec 32 := 256#32
  let v177 : BitVec 32 := Scalar.muli arg13 c256_i32_63
  let v178 : BitVec 32 := v177
  let v179 : Index := Scalar.indexCast v178
  let c0_66 : Index := 0#32
  ![0, 0, v179.toNat, 0]
def k0_off6 (v1 : BitVec 32) (k0_t2 : Fin (k0_t2_loop v1).trips) : Fin 2 → Nat :=
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let c1_i32_43 : BitVec 32 := 1#32
  let arg13 : BitVec 32 := Scf.iv v144 c1_i32_43 k0_t2
  let c256_i32_63 : BitVec 32 := 256#32
  let v177 : BitVec 32 := Scalar.muli arg13 c256_i32_63
  let v178 : BitVec 32 := v177
  let v182 : Index := Scalar.indexCast v178
  let c0_67 : Index := 0#32
  ![v182.toNat, 0]
def k0_off7 (v1 : BitVec 32) (k0_t2 : Fin (k0_t2_loop v1).trips) : Fin 2 → Nat :=
  let c0_i32_40 : BitVec 32 := 0#32
  let c255_i32 : BitVec 32 := 255#32
  let v2 : BitVec 32 := Scalar.addi v1 c255_i32
  let c256_i32 : BitVec 32 := 256#32
  let v3 : BitVec 32 := Scalar.divsi v2 c256_i32
  let v140 : BitVec 32 := Scalar.subi v3 c0_i32_40
  let c1_i32_41 : BitVec 32 := 1#32
  let v142 : BitVec 32 := Scalar.divsi v140 c1_i32_41
  let v143 : BitVec 32 := Scalar.muli v142 c1_i32_41
  let v144 : BitVec 32 := Scalar.addi c0_i32_40 v143
  let c1_i32_43 : BitVec 32 := 1#32
  let arg13 : BitVec 32 := Scf.iv v144 c1_i32_43 k0_t2
  let c256_i32_63 : BitVec 32 := 256#32
  let v177 : BitVec 32 := Scalar.muli arg13 c256_i32_63
  let v178 : BitVec 32 := v177
  let v187 : Index := Scalar.indexCast v178
  let c0_71 : Index := 0#32
  ![v187.toNat, 0]
@[reducible] def k0_t3_loop (v1 : BitVec 32) : Scf.Loop 32 :=
  let c0_i32_51 : BitVec 32 := 0#32
  let c255_i32 : BitVec 32 := 255#32
  let v2 : BitVec 32 := Scalar.addi v1 c255_i32
  let c256_i32 : BitVec 32 := 256#32
  let v3 : BitVec 32 := Scalar.divsi v2 c256_i32
  let v158 : BitVec 32 := Scalar.subi v3 c0_i32_51
  let c1_i32_52 : BitVec 32 := 1#32
  let v160 : BitVec 32 := Scalar.divsi v158 c1_i32_52
  let v161 : BitVec 32 := Scalar.muli v160 c1_i32_52
  let v162 : BitVec 32 := Scalar.addi c0_i32_51 v161
  let c1_i32_53 : BitVec 32 := 1#32
  ⟨c0_i32_51, v162, c1_i32_53⟩
def k0_mult3 (v1 : BitVec 32) (k0_t3 : Fin (k0_t3_loop v1).trips) : BitVec 32 :=
  let c0_i32_51 : BitVec 32 := 0#32
  let c1_i32_53 : BitVec 32 := 1#32
  let arg13 : BitVec 32 := Scf.iv c0_i32_51 c1_i32_53 k0_t3
  let c256_i32_63 : BitVec 32 := 256#32
  let v177 : BitVec 32 := Scalar.muli arg13 c256_i32_63
  v177
def k0_off8 (v1 : BitVec 32) (k0_t3 : Fin (k0_t3_loop v1).trips) : Fin 2 → Nat :=
  let c0_i32_51 : BitVec 32 := 0#32
  let c1_i32_53 : BitVec 32 := 1#32
  let arg13 : BitVec 32 := Scf.iv c0_i32_51 c1_i32_53 k0_t3
  let c256_i32_63 : BitVec 32 := 256#32
  let v177 : BitVec 32 := Scalar.muli arg13 c256_i32_63
  let v178 : BitVec 32 := v177
  let v179 : Index := Scalar.indexCast v178
  let c0_64 : Index := 0#32
  ![v179.toNat, 0]
def k0_off9 (v1 : BitVec 32) (k0_t3 : Fin (k0_t3_loop v1).trips) : Fin 4 → Nat :=
  let c0_71 : Index := 0#32
  let c0_72 : Index := 0#32
  let c0_73 : Index := 0#32
  let c0_i32_51 : BitVec 32 := 0#32
  let c1_i32_53 : BitVec 32 := 1#32
  let arg13 : BitVec 32 := Scf.iv c0_i32_51 c1_i32_53 k0_t3
  let c256_i32_63 : BitVec 32 := 256#32
  let v177 : BitVec 32 := Scalar.muli arg13 c256_i32_63
  let v178 : BitVec 32 := v177
  let v195 : Index := Scalar.indexCast v178
  ![0, 0, 0, v195.toNat]
@[reducible] def k0_t4_loop (v1 : BitVec 32) : Scf.Loop 32 :=
  let c0_i32_51 : BitVec 32 := 0#32
  let c255_i32 : BitVec 32 := 255#32
  let v2 : BitVec 32 := Scalar.addi v1 c255_i32
  let c256_i32 : BitVec 32 := 256#32
  let v3 : BitVec 32 := Scalar.divsi v2 c256_i32
  let v158 : BitVec 32 := Scalar.subi v3 c0_i32_51
  let c1_i32_52 : BitVec 32 := 1#32
  let v160 : BitVec 32 := Scalar.divsi v158 c1_i32_52
  let v161 : BitVec 32 := Scalar.muli v160 c1_i32_52
  let v162 : BitVec 32 := Scalar.addi c0_i32_51 v161
  let v159 : BitVec 32 := Scalar.addi c0_i32_51 v158
  let c1_i32_54 : BitVec 32 := 1#32
  ⟨v162, v159, c1_i32_54⟩
def k0_mult4 (v1 : BitVec 32) (k0_t4 : Fin (k0_t4_loop v1).trips) : BitVec 32 :=
  let c0_i32_51 : BitVec 32 := 0#32
  let c255_i32 : BitVec 32 := 255#32
  let v2 : BitVec 32 := Scalar.addi v1 c255_i32
  let c256_i32 : BitVec 32 := 256#32
  let v3 : BitVec 32 := Scalar.divsi v2 c256_i32
  let v158 : BitVec 32 := Scalar.subi v3 c0_i32_51
  let c1_i32_52 : BitVec 32 := 1#32
  let v160 : BitVec 32 := Scalar.divsi v158 c1_i32_52
  let v161 : BitVec 32 := Scalar.muli v160 c1_i32_52
  let v162 : BitVec 32 := Scalar.addi c0_i32_51 v161
  let c1_i32_54 : BitVec 32 := 1#32
  let arg13 : BitVec 32 := Scf.iv v162 c1_i32_54 k0_t4
  let c256_i32_63 : BitVec 32 := 256#32
  let v177 : BitVec 32 := Scalar.muli arg13 c256_i32_63
  v177
def k0_off10 (v1 : BitVec 32) (k0_t4 : Fin (k0_t4_loop v1).trips) : Fin 2 → Nat :=
  let c0_i32_51 : BitVec 32 := 0#32
  let c255_i32 : BitVec 32 := 255#32
  let v2 : BitVec 32 := Scalar.addi v1 c255_i32
  let c256_i32 : BitVec 32 := 256#32
  let v3 : BitVec 32 := Scalar.divsi v2 c256_i32
  let v158 : BitVec 32 := Scalar.subi v3 c0_i32_51
  let c1_i32_52 : BitVec 32 := 1#32
  let v160 : BitVec 32 := Scalar.divsi v158 c1_i32_52
  let v161 : BitVec 32 := Scalar.muli v160 c1_i32_52
  let v162 : BitVec 32 := Scalar.addi c0_i32_51 v161
  let c1_i32_54 : BitVec 32 := 1#32
  let arg13 : BitVec 32 := Scf.iv v162 c1_i32_54 k0_t4
  let c256_i32_63 : BitVec 32 := 256#32
  let v177 : BitVec 32 := Scalar.muli arg13 c256_i32_63
  let v178 : BitVec 32 := v177
  let v179 : Index := Scalar.indexCast v178
  let c0_64 : Index := 0#32
  ![v179.toNat, 0]
def k0_off11 (v1 : BitVec 32) (k0_t4 : Fin (k0_t4_loop v1).trips) : Fin 4 → Nat :=
  let c0_71 : Index := 0#32
  let c0_72 : Index := 0#32
  let c0_73 : Index := 0#32
  let c0_i32_51 : BitVec 32 := 0#32
  let c255_i32 : BitVec 32 := 255#32
  let v2 : BitVec 32 := Scalar.addi v1 c255_i32
  let c256_i32 : BitVec 32 := 256#32
  let v3 : BitVec 32 := Scalar.divsi v2 c256_i32
  let v158 : BitVec 32 := Scalar.subi v3 c0_i32_51
  let c1_i32_52 : BitVec 32 := 1#32
  let v160 : BitVec 32 := Scalar.divsi v158 c1_i32_52
  let v161 : BitVec 32 := Scalar.muli v160 c1_i32_52
  let v162 : BitVec 32 := Scalar.addi c0_i32_51 v161
  let c1_i32_54 : BitVec 32 := 1#32
  let arg13 : BitVec 32 := Scf.iv v162 c1_i32_54 k0_t4
  let c256_i32_63 : BitVec 32 := 256#32
  let v177 : BitVec 32 := Scalar.muli arg13 c256_i32_63
  let v178 : BitVec 32 := v177
  let v195 : Index := Scalar.indexCast v178
  ![0, 0, 0, v195.toNat]

def k0_chk1 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x1x256x128.size a ≤ S1x1x6144x128.size a) ∧
  (∀ k0_t1 : Fin (k0_t1_loop v1).trips, ∀ a, (k0_off3 v1 k0_t1) a + S256x128.size a ≤ S6144x128.size a) ∧
  (∀ k0_t1 : Fin (k0_t1_loop v1).trips, ∀ a, (k0_off4 v1 k0_t1) a + S256x1024.size a ≤ S6144x1024.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off5 v1 k0_t2) a + S1x1x256x128.size a ≤ S1x1x6144x128.size a) ∧
  (∀ k0_t2 : Fin (k0_t2_loop v1).trips, ∀ a, (k0_off6 v1 k0_t2) a + S256x128.size a ≤ S6144x128.size a) ∧
  (∀ k0_t2 : Fin (k0_t2_loop v1).trips, ∀ a, (k0_off7 v1 k0_t2) a + S256x1024.size a ≤ S6144x1024.size a) ∧
  ((k0_t3_loop v1).OK) ∧
  (∀ k0_t3 : Fin (k0_t3_loop v1).trips, 256 ∣ (k0_mult3 v1 k0_t3).toNat) ∧
  (∀ k0_t3 : Fin (k0_t3_loop v1).trips, ∀ a, (k0_off8 v1 k0_t3) a + S256x1024.size a ≤ S6144x1024.size a) ∧
  (∀ k0_t3 : Fin (k0_t3_loop v1).trips, ∀ a, (k0_off9 v1 k0_t3) a + S1x1x128x256.size a ≤ S1x1x128x6144.size a) ∧
  ((k0_t4_loop v1).OK) ∧
  (∀ k0_t4 : Fin (k0_t4_loop v1).trips, 256 ∣ (k0_mult4 v1 k0_t4).toNat) ∧
  (∀ k0_t4 : Fin (k0_t4_loop v1).trips, ∀ a, (k0_off10 v1 k0_t4) a + S256x1024.size a ≤ S6144x1024.size a) ∧
  (∀ k0_t4 : Fin (k0_t4_loop v1).trips, ∀ a, (k0_off11 v1 k0_t4) a + S1x1x128x256.size a ≤ S1x1x128x6144.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x1x256x128.size a ≤ S1x1x6144x128.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S256x128.size a ≤ S6144x128.size a := fun v1 k0_hw1 k0_t1 => k0_hw1.2.2.2.1 k0_t1
theorem k0_off4_inb : ∀ (v1 : BitVec 32) (k0_hw1 : k0_chk1 v1) (k0_t1 : Fin (k0_t1_loop v1).trips), ∀ a, (k0_off4 v1 k0_t1) a + S256x1024.size a ≤ S6144x1024.size a := fun v1 k0_hw1 k0_t1 => k0_hw1.2.2.2.2.1 k0_t1
theorem k0_t2_ok : ∀ (v1 : BitVec 32) (k0_hw1 : k0_chk1 v1), (k0_t2_loop v1).OK := fun v1 k0_hw1 => k0_hw1.2.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.2.2.2.2.2.2.1 k0_t2
theorem k0_off5_inb : ∀ (v1 : BitVec 32) (k0_hw1 : k0_chk1 v1) (k0_t2 : Fin (k0_t2_loop v1).trips), ∀ a, (k0_off5 v1 k0_t2) a + S1x1x256x128.size a ≤ S1x1x6144x128.size a := fun v1 k0_hw1 k0_t2 => k0_hw1.2.2.2.2.2.2.2.1 k0_t2
theorem k0_off6_inb : ∀ (v1 : BitVec 32) (k0_hw1 : k0_chk1 v1) (k0_t2 : Fin (k0_t2_loop v1).trips), ∀ a, (k0_off6 v1 k0_t2) a + S256x128.size a ≤ S6144x128.size a := fun v1 k0_hw1 k0_t2 => k0_hw1.2.2.2.2.2.2.2.2.1 k0_t2
theorem k0_off7_inb : ∀ (v1 : BitVec 32) (k0_hw1 : k0_chk1 v1) (k0_t2 : Fin (k0_t2_loop v1).trips), ∀ a, (k0_off7 v1 k0_t2) a + S256x1024.size a ≤ S6144x1024.size a := fun v1 k0_hw1 k0_t2 => k0_hw1.2.2.2.2.2.2.2.2.2.1 k0_t2
theorem k0_t3_ok : ∀ (v1 : BitVec 32) (k0_hw1 : k0_chk1 v1), (k0_t3_loop v1).OK := fun v1 k0_hw1 => k0_hw1.2.2.2.2.2.2.2.2.2.2.1
theorem k0_mult3_dvd : ∀ (v1 : BitVec 32) (k0_hw1 : k0_chk1 v1) (k0_t3 : Fin (k0_t3_loop v1).trips), 256 ∣ (k0_mult3 v1 k0_t3).toNat := fun v1 k0_hw1 k0_t3 => k0_hw1.2.2.2.2.2.2.2.2.2.2.2.1 k0_t3
theorem k0_off8_inb : ∀ (v1 : BitVec 32) (k0_hw1 : k0_chk1 v1) (k0_t3 : Fin (k0_t3_loop v1).trips), ∀ a, (k0_off8 v1 k0_t3) a + S256x1024.size a ≤ S6144x1024.size a := fun v1 k0_hw1 k0_t3 => k0_hw1.2.2.2.2.2.2.2.2.2.2.2.2.1 k0_t3
theorem k0_off9_inb : ∀ (v1 : BitVec 32) (k0_hw1 : k0_chk1 v1) (k0_t3 : Fin (k0_t3_loop v1).trips), ∀ a, (k0_off9 v1 k0_t3) a + S1x1x128x256.size a ≤ S1x1x128x6144.size a := fun v1 k0_hw1 k0_t3 => k0_hw1.2.2.2.2.2.2.2.2.2.2.2.2.2.1 k0_t3
theorem k0_t4_ok : ∀ (v1 : BitVec 32) (k0_hw1 : k0_chk1 v1), (k0_t4_loop v1).OK := fun v1 k0_hw1 => k0_hw1.2.2.2.2.2.2.2.2.2.2.2.2.2.2.1
theorem k0_mult4_dvd : ∀ (v1 : BitVec 32) (k0_hw1 : k0_chk1 v1) (k0_t4 : Fin (k0_t4_loop v1).trips), 256 ∣ (k0_mult4 v1 k0_t4).toNat := fun v1 k0_hw1 k0_t4 => k0_hw1.2.2.2.2.2.2.2.2.2.2.2.2.2.2.2.1 k0_t4
theorem k0_off10_inb : ∀ (v1 : BitVec 32) (k0_hw1 : k0_chk1 v1) (k0_t4 : Fin (k0_t4_loop v1).trips), ∀ a, (k0_off10 v1 k0_t4) a + S256x1024.size a ≤ S6144x1024.size a := fun v1 k0_hw1 k0_t4 => k0_hw1.2.2.2.2.2.2.2.2.2.2.2.2.2.2.2.2.1 k0_t4
theorem k0_off11_inb : ∀ (v1 : BitVec 32) (k0_hw1 : k0_chk1 v1) (k0_t4 : Fin (k0_t4_loop v1).trips), ∀ a, (k0_off11 v1 k0_t4) a + S1x1x128x256.size a ≤ S1x1x128x6144.size a := fun v1 k0_hw1 k0_t4 => k0_hw1.2.2.2.2.2.2.2.2.2.2.2.2.2.2.2.2.2 k0_t4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c14_i32 : BitVec 32 := 14#32
  let v0 : BitVec 32 := Scalar.divsi arg1 c14_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg1 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c14_i32 : BitVec 32 := 14#32
  let v0 : BitVec 32 := Scalar.divsi arg1 c14_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg1 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exp2_scale" => some (((Real.sqrt 128)⁻¹ * (Real.log 2)⁻¹ : ℝ) : EReal)
  | "mask" => some ⊥
  | _ => none
-- ==== ReferenceIdeal.lean ====
abbrev S5x56x1024x128 : Shape := ⟨4, ![5, 56, 1024, 128]⟩
abbrev S5x4x6144x128 : Shape := ⟨4, ![5, 4, 6144, 128]⟩
abbrev S5x4x128x6144 : Shape := ⟨4, ![5, 4, 128, 6144]⟩
abbrev S5 : Shape := ⟨1, ![5]⟩
abbrev S254 : Shape := ⟨1, ![254]⟩
abbrev S5x28x2048x4x32 : Shape := ⟨5, ![5, 28, 2048, 4, 32]⟩
abbrev S_ : Shape := ⟨0, ![]⟩
abbrev S5x28x2048x4 : Shape := ⟨4, ![5, 28, 2048, 4]⟩
abbrev S5x28x2048x4x1 : Shape := ⟨5, ![5, 28, 2048, 4, 1]⟩
abbrev S1x1x1x1x254 : Shape := ⟨5, ![1, 1, 1, 1, 254]⟩
abbrev S5x28x2048x4x254 : Shape := ⟨5, ![5, 28, 2048, 4, 254]⟩
abbrev S5x28x4x2048 : Shape := ⟨4, ![5, 28, 4, 2048]⟩
abbrev S5x4x14336x128 : Shape := ⟨4, ![5, 4, 14336, 128]⟩
abbrev S5x4x14336x6144 : Shape := ⟨4, ![5, 4, 14336, 6144]⟩
abbrev S6144 : Shape := ⟨1, ![6144]⟩
abbrev S1x6144 : Shape := ⟨2, ![1, 6144]⟩
abbrev S5x1 : Shape := ⟨2, ![5, 1]⟩
abbrev S5x6144 : Shape := ⟨2, ![5, 6144]⟩
abbrev S5x1x1x6144 : Shape := ⟨4, ![5, 1, 1, 6144]⟩
abbrev S5x4x14336 : Shape := ⟨3, ![5, 4, 14336]⟩
abbrev S5x4x14336x1 : Shape := ⟨4, ![5, 4, 14336, 1]⟩

abbrev nBuf : Space → Nat
  | .hbm => 103
  | .vmem => 2
  | .smem => 0
  | _ => 0

abbrev bufTy : (tb : Table) → Fin (tcTables nBuf tb) → BufTy
  | .hbm, ⟨0, _⟩ => ⟨S5x56x1024x128, .bf16⟩
  | .hbm, ⟨1, _⟩ => ⟨S5x4x6144x128, .bf16⟩
  | .hbm, ⟨2, _⟩ => ⟨S5x4x128x6144, .bf16⟩
  | .hbm, ⟨3, _⟩ => ⟨S5, .i32⟩
  | .hbm, ⟨4, _⟩ => ⟨S254, .f32⟩
  | .hbm, ⟨5, _⟩ => ⟨S5x28x2048x4x32, .bf16⟩
  | .hbm, ⟨6, _⟩ => ⟨S5x28x2048x4x32, .bf16⟩
  | .hbm, ⟨7, _⟩ => ⟨S5x28x2048x4x32, .f32⟩
  | .hbm, ⟨8, _⟩ => ⟨S_, .f32⟩
  | .hbm, ⟨9, _⟩ => ⟨S5x28x2048x4, .f32⟩
  | .hbm, ⟨10, _⟩ => ⟨S_, .f32⟩
  | .hbm, ⟨11, _⟩ => ⟨S5x28x2048x4, .f32⟩
  | .hbm, ⟨12, _⟩ => ⟨S5x28x2048x4, .f32⟩
  | .hbm, ⟨13, _⟩ => ⟨S5x28x2048x4x1, .f32⟩
  | .hbm, ⟨14, _⟩ => ⟨S1x1x1x1x254, .f32⟩
  | .hbm, ⟨15, _⟩ => ⟨S5x28x2048x4x254, .f32⟩
  | .hbm, ⟨16, _⟩ => ⟨S5x28x2048x4x254, .f32⟩
  | .hbm, ⟨17, _⟩ => ⟨S5x28x2048x4x254, .i1⟩
  | .hbm, ⟨18, _⟩ => ⟨S_, .f32⟩
  | .hbm, ⟨19, _⟩ => ⟨S_, .f32⟩
  | .hbm, ⟨20, _⟩ => ⟨S5x28x2048x4x254, .f32⟩
  | .hbm, ⟨21, _⟩ => ⟨S5x28x2048x4x254, .f32⟩
  | .hbm, ⟨22, _⟩ => ⟨S5x28x2048x4x254, .f32⟩
  | .hbm, ⟨23, _⟩ => ⟨S_, .f32⟩
  | .hbm, ⟨24, _⟩ => ⟨S5x28x2048x4, .f32⟩
  | .hbm, ⟨25, _⟩ => ⟨S_, .f32⟩
  | .hbm, ⟨26, _⟩ => ⟨S5x28x2048x4, .f32⟩
  | .hbm, ⟨27, _⟩ => ⟨S5x28x2048x4, .i1⟩
  | .hbm, ⟨28, _⟩ => ⟨S_, .f32⟩
  | .hbm, ⟨29, _⟩ => ⟨S_, .f32⟩
  | .hbm, ⟨30, _⟩ => ⟨S5x28x2048x4, .f32⟩
  | .hbm, ⟨31, _⟩ => ⟨S5x28x2048x4, .f32⟩
  | .hbm, ⟨32, _⟩ => ⟨S5x28x4x2048, .f32⟩
  | .hbm, ⟨33, _⟩ => ⟨S5x28x2048x4x32, .f32⟩
  | .hbm, ⟨34, _⟩ => ⟨S_, .f32⟩
  | .hbm, ⟨35, _⟩ => ⟨S5x28x2048x4, .f32⟩
  | .hbm, ⟨36, _⟩ => ⟨S5x28x2048x4, .f32⟩
  | .hbm, ⟨37, _⟩ => ⟨S5x28x2048x4x1, .f32⟩
  | .hbm, ⟨38, _⟩ => ⟨S5x28x2048x4x32, .f32⟩
  | .hbm, ⟨39, _⟩ => ⟨S5x28x2048x4x32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S5x28x2048x4x32, .f32⟩
  | .hbm, ⟨44, _⟩ => ⟨S5x28x2048x4x32, .f32⟩
  | .hbm, ⟨45, _⟩ => ⟨S_, .f32⟩
  | .hbm, ⟨46, _⟩ => ⟨S5x28x2048x4x32, .f32⟩
  | .hbm, ⟨47, _⟩ => ⟨S5x28x2048x4x32, .f32⟩
  | .hbm, ⟨48, _⟩ => ⟨S5x56x1024x128, .f32⟩
  | .hbm, ⟨49, _⟩ => ⟨S5x56x1024x128, .bf16⟩
  | .hbm, ⟨50, _⟩ => ⟨S5x28x2048x4x32, .bf16⟩
  | .hbm, ⟨51, _⟩ => ⟨S5x28x2048x4, .bf16⟩
  | .hbm, ⟨52, _⟩ => ⟨S5x28x2048x4x1, .bf16⟩
  | .hbm, ⟨53, _⟩ => ⟨S5x28x2048x4x32, .bf16⟩
  | .hbm, ⟨54, _⟩ => ⟨S5x28x2048x4x32, .bf16⟩
  | .hbm, ⟨55, _⟩ => ⟨S5x4x14336x128, .bf16⟩
  | .hbm, ⟨56, _⟩ => ⟨S5x4x14336x6144, .f32⟩
  | .hbm, ⟨57, _⟩ => ⟨S6144, .i32⟩
  | .hbm, ⟨58, _⟩ => ⟨S1x6144, .i32⟩
  | .hbm, ⟨59, _⟩ => ⟨S5x1, .i32⟩
  | .hbm, ⟨60, _⟩ => ⟨S5x6144, .i32⟩
  | .hbm, ⟨61, _⟩ => ⟨S5x6144, .i32⟩
  | .hbm, ⟨62, _⟩ => ⟨S5x6144, .i1⟩
  | .hbm, ⟨63, _⟩ => ⟨S5x1x1x6144, .i1⟩
  | .hbm, ⟨64, _⟩ => ⟨S_, .f32⟩
  | .hbm, ⟨65, _⟩ => ⟨S_, .f32⟩
  | .hbm, ⟨66, _⟩ => ⟨S5x4x14336x6144, .f32⟩
  | .hbm, ⟨67, _⟩ => ⟨S5x4x14336x6144, .f32⟩
  | .hbm, ⟨68, _⟩ => ⟨S_, .f32⟩
  | .hbm, ⟨69, _⟩ => ⟨S_, .f32⟩
  | .hbm, ⟨70, _⟩ => ⟨S5x4x14336x6144, .i1⟩
  | .hbm, ⟨71, _⟩ => ⟨S5x4x14336x6144, .f32⟩
  | .hbm, ⟨72, _⟩ => ⟨S5x4x14336x6144, .f32⟩
  | .hbm, ⟨73, _⟩ => ⟨S_, .f32⟩
  | .hbm, ⟨74, _⟩ => ⟨S5x4x14336, .f32⟩
  | .hbm, ⟨75, _⟩ => ⟨S5x4x14336x1, .f32⟩
  | .hbm, ⟨76, _⟩ => ⟨S5x4x14336x6144, .f32⟩
  | .hbm, ⟨77, _⟩ => ⟨S5x4x14336x6144, .f32⟩
  | .hbm, ⟨78, _⟩ => ⟨S5x4x14336x6144, .f32⟩
  | .hbm, ⟨79, _⟩ => ⟨S_, .f32⟩
  | .hbm, ⟨80, _⟩ => ⟨S5x4x14336, .f32⟩
  | .hbm, ⟨81, _⟩ => ⟨S_, .f32⟩
  | .hbm, ⟨82, _⟩ => ⟨S5x4x14336x6144, .f32⟩
  | .hbm, ⟨83, _⟩ => ⟨S5x4x14336x6144, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S5x4x14336x6144, .f32⟩
  | .hbm, ⟨88, _⟩ => ⟨S5x4x14336x6144, .f32⟩
  | .hbm, ⟨89, _⟩ => ⟨S_, .f32⟩
  | .hbm, ⟨90, _⟩ => ⟨S5x4x14336x6144, .f32⟩
  | .hbm, ⟨91, _⟩ => ⟨S5x4x14336x6144, .f32⟩
  | .hbm, ⟨92, _⟩ => ⟨S5x4x14336x6144, .bf16⟩
  | .hbm, ⟨93, _⟩ => ⟨S5x4x14336x128, .f32⟩
  | .hbm, ⟨94, _⟩ => ⟨S_, .f32⟩
  | .hbm, ⟨95, _⟩ => ⟨S5x4x14336x128, .f32⟩
  | .hbm, ⟨96, _⟩ => ⟨S5x4x14336x128, .f32⟩
  | .hbm, ⟨97, _⟩ => ⟨S5x4x14336x1, .f32⟩
  | .hbm, ⟨98, _⟩ => ⟨S5x4x14336x128, .f32⟩
  | .hbm, ⟨99, _⟩ => ⟨S5x4x14336x128, .f32⟩
  | .hbm, ⟨100, _⟩ => ⟨S5x56x1024x128, .f32⟩
  | .hbm, ⟨101, _⟩ => ⟨S5x56x1024x128, .bf16⟩
  | .hbm, ⟨102, _⟩ => ⟨S5x56x1024x128, .fp8e4m3⟩
  | .local _ .vmem, ⟨0, _⟩ => ⟨S5x56x1024x128, .bf16⟩
  | .local _ .vmem, ⟨1, _⟩ => ⟨S5x56x1024x128, .fp8e4m3⟩
  | _, _ => ⟨S5x56x1024x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_cst_8 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_cst_15 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_16 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5x56x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x56x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Points.lean ====
/- When each window of the attention call is fetched and written back, its staging buffer at a grid point,
   and the body as it is called there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 14), at any contents of the tables (its index map reads none). -/
theorem fetch0_1 (a : (pcfg0 (F := F)).Adm) : ∀ t : Fin (cfg0 a).N, ((cfg0 a).win 1).fetch t = true ↔ t.val % 14 = 0 :=
  (by decide +kernel : ∀ t : Fin grid0.N, Pipeline.Window.fetchOf grid0 false cc0_transform_1 t = true ↔ t.val % 14 = 0)
/-- Window 2 (operand 3 (%arg2)) is fetched at the points ≡ 0 (mod 14), at any contents of the tables (its index map reads none). -/
theorem fetch0_2 (a : (pcfg0 (F := F)).Adm) : ∀ t : Fin (cfg0 a).N, ((cfg0 a).win 2).fetch t = true ↔ t.val % 14 = 0 :=
  (by decide +kernel : ∀ t : Fin grid0.N, Pipeline.Window.fetchOf grid0 false cc0_transform_2 t = true ↔ t.val % 14 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mxfp8_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.Kernel.Runs.lean ====
/- What the runs of the attention body are stated over: the prefetched lengths, the windows' blocks, the branch
   condition in closed form, the staging and scratch buffers. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 56) — by arithmetic of the point. -/
theorem hcond0_0 : ∀ t : Fin grid0.N, cond0_0 (grid0.coords t) ↔ t.val % 56 = 0 :=
  (fun t => by
    have ht : t.val < 280 := Nat.lt_of_lt_of_eq t.isLt N_0
    have e0 : (grid0.coords t 0).val = t.val / 56 % 5 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 56 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x1024x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x6144x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x128x6144 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x1024 .bf16 := Memref.whole cc0_scratch0
abbrev scM0_1 : Memref sig .tc .vmem S6144x1024 .f32 := Memref.whole cc0_scratch1
abbrev scM0_2 : Memref sig .tc .vmem S6144x128 .bf16 := Memref.whole cc0_scratch2
abbrev scM0_3 : Memref sig .tc .vmem S128x1024 .f32 := Memref.whole cc0_scratch3
/-- The scratch `arg9` the kernel carries between points, as a view: what it holds is stated through it. -/
abbrev VS0_0 : View sig .tc .vmem S256x1024 .bf16 := scM0_0.view
/-- The scratch `arg11` the kernel carries between points, as a view: what it holds is stated through it. -/
abbrev VS0_2 : View sig .tc .vmem S6144x128 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Kernel.Run.lean ====
/- The attention body run once at a grid point, on any staging buffers. -/
module

public import proofs.«01_k».proof.Proof.Kernel.Runs
public import proofs.«01_k».proof.Proof.Gen.Kernel.Loops
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The exponent bits of the block scales found so far, and the ones still to try, from the query block. -/
def v79Of (x0 : Vec F S1x1x1024x128 .bf16) := k0_pay14 (F := F) (k0_pay11 x0) (k0_pay12 x0) (k0_pay13 x0) 23#32
def v81Of (x0 : Vec F S1x1x1024x128 .bf16) := k0_pay15 (F := F) (k0_pay11 x0) (k0_pay12 x0) (k0_pay13 x0) 23#32
/-- The codes the body stores for the query block `x0`. -/
def qcOf (x0 : Vec F S1x1x1024x128 .bf16) : Vec F S1x1x1024x128 .fp8e4m3 := k0_pay21 (k0_pay20 (k0_pay10 x0) (k0_pay11 x0) (v79Of x0) (v81Of x0) 23#32)
/-- The block scales the body stores for the query block `x0`. -/
def qsOf (x0 : Vec F S1x1x1024x128 .bf16) : Vec F S1x1x4x1024 .f32 := k0_pay22 (k0_pay17 (k0_pay11 x0) (v79Of x0) (v81Of x0) 23#32)

/-- One trip of the value loop (`k0_t3`): it reads the value tile and the scores and leaves the output accumulator at some
    contents. -/
theorem trip3_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (k : Fin (k0_t3_loop v1).trips) (acc : FVec F S8x1024 .f32) (E : Set ℕ) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ wp frame (wpE (defs₀ (F := F)) Variants.none (c : Thread nD τ) none) E (k0_t3_body (F := F) i tbM0_0 htbM0_0 arg3 harg3 arg4 harg4 arg5 harg5 arg6 harg6 arg7 harg7 arg8 harg8 arg9 harg9 arg10 harg10 arg11 harg11 arg12 harg12 v1 k0_hw1 v152 k acc)
        (fun _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) := by
  iintro ⟨H2, HS1, %f, HS3⟩
  iapply (wp_wand_r Idealize.ShloMosaic.frame (wpE (defs₀ (F := F)) Variants.none (c : Thread nD τ) none) E)
  isplitl [H2 HS1 HS3]
  · iapply ((trip_k0_t3 (F := F) Variants.none c none i tbM0_0 htbM0_0 arg3 harg3 arg4 harg4 arg5 harg5 arg6 harg6 arg7 harg7 arg8 harg8 arg9 harg9 arg10 harg10 arg11 harg11 arg12 harg12 v1 k0_hw1 v152 X5 f10 k).2.2 E acc f)
    isplitl [H2]; · iexact H2
    isplitl [HS1]; · iexact HS1
    iexact HS3
  · iintro %yld ⟨-, H2, HS1, HS3⟩
    isplitl [H2]; · iexact H2
    isplitl [HS1]; · iexact HS1
    iexists _; iexact HS3

/-- The value loop `k0_t3` at the head of a program: the value tile and the scores are kept, the output accumulator is left
    at some contents. -/
theorem loop3_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (init : FVec F S8x1024 .f32) (E : Set ℕ)
    {β : Type} (kk : FVec F S8x1024 .f32 → Prog (TpuEff nD τ sig (Elt F) Λ₀ .tc) β) (Q : β → sProp 𝕄) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ iprop((∀ acc, (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄) -∗ wp frame (wpE (defs₀ (F := F)) Variants.none (c : Thread nD τ) none) E (kk acc) Q)
        -∗ wp frame (wpE (defs₀ (F := F)) Variants.none (c : Thread nD τ) none) E
          (Scf.Loop.for (k0_t3_loop v1) (k0_t3_ok v1 k0_hw1) init (k0_t3_body (F := F) i tbM0_0 htbM0_0 arg3 harg3 arg4 harg4 arg5 harg5 arg6 harg6 arg7 harg7 arg8 harg8 arg9 harg9 arg10 harg10 arg11 harg11 arg12 harg12 v1 k0_hw1 v152) >>= kk) Q) :=
  Scf.wp_for_bind Idealize.ShloMosaic.frame (wpE (defs₀ (F := F)) Variants.none (c : Thread nD τ) none) E
    (k0_t3_loop v1).lb (k0_t3_loop v1).ub (k0_t3_loop v1).st (k0_t3_ok v1 k0_hw1) init _
    (fun _ _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) (fun k acc => trip3_weak c i arg3 harg3 arg4 harg4 arg5 harg5 arg6 harg6 arg7 harg7 arg8 harg8 arg9 harg9 arg10 harg10 arg11 harg11 arg12 harg12 v1 k0_hw1 v152 X5 f10 k acc E)

/-- One trip of the value loop (`k0_t4`): it reads the value tile and the scores and leaves the output accumulator at some
    contents. -/
theorem trip4_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (k : Fin (k0_t4_loop v1).trips) (acc : FVec F S8x1024 .f32) (E : Set ℕ) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ wp frame (wpE (defs₀ (F := F)) Variants.none (c : Thread nD τ) none) E (k0_t4_body (F := F) i tbM0_0 htbM0_0 arg3 harg3 arg4 harg4 arg5 harg5 arg6 harg6 arg7 harg7 arg8 harg8 arg9 harg9 arg10 harg10 arg11 harg11 arg12 harg12 v1 k0_hw1 v152 k acc)
        (fun _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) := by
  iintro ⟨H2, HS1, %f, HS3⟩
  iapply (wp_wand_r Idealize.ShloMosaic.frame (wpE (defs₀ (F := F)) Variants.none (c : Thread nD τ) none) E)
  isplitl [H2 HS1 HS3]
  · iapply ((trip_k0_t4 (F := F) Variants.none c none i tbM0_0 htbM0_0 arg3 harg3 arg4 harg4 arg5 harg5 arg6 harg6 arg7 harg7 arg8 harg8 arg9 harg9 arg10 harg10 arg11 harg11 arg12 harg12 v1 k0_hw1 v152 X5 f10 k).2.2 E acc f)
    isplitl [H2]; · iexact H2
    isplitl [HS1]; · iexact HS1
    iexact HS3
  · iintro %yld ⟨-, H2, HS1, HS3⟩
    isplitl [H2]; · iexact H2
    isplitl [HS1]; · iexact HS1
    iexists _; iexact HS3

/-- The value loop `k0_t4` at the head of a program: the value tile and the scores are kept, the output accumulator is left
    at some contents. -/
theorem loop4_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (init : FVec F S8x1024 .f32) (E : Set ℕ)
    {β : Type} (kk : FVec F S8x1024 .f32 → Prog (TpuEff nD τ sig (Elt F) Λ₀ .tc) β) (Q : β → sProp 𝕄) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ iprop((∀ acc, (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄) -∗ wp frame (wpE (defs₀ (F := F)) Variants.none (c : Thread nD τ) none) E (kk acc) Q)
        -∗ wp frame (wpE (defs₀ (F := F)) Variants.none (c : Thread nD τ) none) E
          (Scf.Loop.for (k0_t4_loop v1) (k0_t4_ok v1 k0_hw1) init (k0_t4_body (F := F) i tbM0_0 htbM0_0 arg3 harg3 arg4 harg4 arg5 harg5 arg6 harg6 arg7 harg7 arg8 harg8 arg9 harg9 arg10 harg10 arg11 harg11 arg12 harg12 v1 k0_hw1 v152) >>= kk) Q) :=
  Scf.wp_for_bind Idealize.ShloMosaic.frame (wpE (defs₀ (F := F)) Variants.none (c : Thread nD τ) none) E
    (k0_t4_loop v1).lb (k0_t4_loop v1).ub (k0_t4_loop v1).st (k0_t4_ok v1 k0_hw1) init _
    (fun _ _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) (fun k acc => trip4_weak c i arg3 harg3 arg4 harg4 arg5 harg5 arg6 harg6 arg7 harg7 arg8 harg8 arg9 harg9 arg10 harg10 arg11 harg11 arg12 harg12 v1 k0_hw1 v152 X5 f10 k acc E)

/-- A whole load of the query tile reads what the tile was given. -/
theorem read_query (arg3 : Memref sig .tc .vmem S1x1x1024x128 .bf16) (harg3 : arg3.IsWhole) (x0 : Vec F S1x1x1024x128 .bf16)
    (inb : ∀ a, (![0, 0, 0, 0] : Fin 4 → ℕ) a + S1x1x1024x128.size a ≤ S1x1x1024x128.size a) :
    arg3.view.readAt (Elt F) (Rect.unit (s := S1x1x1024x128) ![0, 0, 0, 0] S1x1x1024x128.size inb).toLoadRect (harg3.unread x0) = x0 :=
  (View.readAt_full ..).trans (harg3.read_unread _)

set_option maxHeartbeats 1600000 in
/-- The second half of the body at a grid point: the loops over the value chunks and the store of the output tile, from any
    scores and any accumulator. -/
theorem run_tail (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (v157 : FVec F S8x1024 .f32)
    (X5 : BufTy.Contents (Elt F) arg5.view.ty) (f10 : BufTy.Contents (Elt F) arg10.view.ty) (f12 : BufTy.Contents (Elt F) arg12.view.ty) (f6 : BufTy.Contents (Elt F) arg6.view.ty)
    (E : Set ℕ) (K : PUnit → sProp 𝕄) :
    iprop((arg5.view.loc (c : Thread nD τ) ↦[arg5.view.set]{fullShare} X5) ∗ (arg10.view.loc (c : Thread nD τ) ↦[arg10.view.set]{fullShare} f10) ∗ (arg12.view.loc (c : Thread nD τ) ↦[arg12.view.set]{fullShare} f12) ∗ (arg6.view.loc (c : Thread nD τ) ↦[arg6.view.set]{fullShare} f6) ∗ (iprop((arg5.view.loc (c : Thread nD τ) ↦[arg5.view.set]{fullShare} X5) ∗ (∃ f, arg10.view.loc (c : Thread nD τ) ↦[arg10.view.set]{fullShare} f) ∗ (∃ f, arg12.view.loc (c : Thread nD τ) ↦[arg12.view.set]{fullShare} f) ∗ (∃ f, arg6.view.loc (c : Thread nD τ) ↦[arg6.view.set]{fullShare} f)) -∗ K ⟨⟩))
      ⊢ wp frame (wpE (defs₀ (F := F)) Variants.none c none) E (do
        let v163 : FVec F S8x1024 .f32 ← Scf.Loop.for (k0_t3_loop v1) (k0_t3_ok v1 k0_hw1) v157 (k0_t3_body i tbM0_0 htbM0_0 arg3 harg3 arg4 harg4 arg5 harg5 arg6 harg6 arg7 harg7 arg8 harg8 arg9 harg9 arg10 harg10 arg11 harg11 arg12 harg12 v1 k0_hw1 v152)
        let v164 : FVec F S8x1024 .f32 ← Scf.Loop.for (k0_t4_loop v1) (k0_t4_ok v1 k0_hw1) v163 (k0_t4_body i tbM0_0 htbM0_0 arg3 harg3 arg4 harg4 arg5 harg5 arg6 harg6 arg7 harg7 arg8 harg8 arg9 harg9 arg10 harg10 arg11 harg11 arg12 harg12 v1 k0_hw1 v152)
        let v169 : Vec F S128x1024 .f32 ← Prog.lift (.load arg12 (Rect.unit (s := S128x1024) ![0, 0] S128x1024.size inb_S128x1024_S128x1024_0_0).toLoadRect (View.loadsAt_vmem h_S128x1024))
        let v174 : Vec F S1x1x1024x128 .bf16 ← Prog.lift (.load arg6 (Rect.unit (s := S1x1x1024x128) ![0, 0, 0, 0] S1x1x1024x128.size inb_S1x1x1024x128_S1x1x1024x128_0_0_0_0).toLoadRect (View.loadsAt_vmem h_S1x1x1024x128))
        Prog.lift (.store arg6 (Rect.unit (s := S1x1x1024x128) ![0, 0, 0, 0] S1x1x1024x128.size inb_S1x1x1024x128_S1x1x1024x128_0_0_0_0) (k0_pay7 v164 v169) Finset.univ (View.stores_vmem h_S1x1x1024x128 (harg6.storeExact_slice rfl _ packedbf16_S1x1x1024x128_S1x1x1024x128_0_0_0_0) (fun _ => rfl)) (.inl rfl))
        pure ⟨⟩) K := by
    iintro ⟨H2, HS1, HS3, H3, Hk⟩
    iapply (loop3_weak c i arg3 harg3 arg4 harg4 arg5 harg5 arg6 harg6 arg7 harg7 arg8 harg8 arg9 harg9 arg10 harg10 arg11 harg11 arg12 harg12 v1 k0_hw1 v152 X5 f10 v157 E _ K) $$ [H2 HS1 HS3]
    · isplitl [H2]; · iexact H2
      isplitl [HS1]; · iexact HS1
      iexists _; iexact HS3
    iintro %acc3 ⟨H2, HS1, %g3, HS3⟩
    iapply (loop4_weak c i arg3 harg3 arg4 harg4 arg5 harg5 arg6 harg6 arg7 harg7 arg8 harg8 arg9 harg9 arg10 harg10 arg11 harg11 arg12 harg12 v1 k0_hw1 v152 X5 f10 acc3 E _ K) $$ [H2 HS1 HS3]
    · isplitl [H2]; · iexact H2
      isplitl [HS1]; · iexact HS1
      iexists _; iexact HS3
    iintro %acc4 ⟨H2, HS1, %g4, HS3⟩
    sl_exec
    sl_step
    iapply Hk
    isplitl [H2]; · iexact H2
    isplitl [HS1]; · iexists _; iexact HS1
    isplitl [HS3]; · iexists _; iexact HS3
    iexists _; iexact H3

set_option sl_exec.maxSteps 30 in
set_option maxHeartbeats 1600000 in
/-- The body at a grid point whose first branch is taken: from the inputs' blocks, the lengths' half and everything else at
    anything, it runs and leaves the inputs and the lengths as they were, the codes and the scales of the query tile in
    the second and third outputs, the first output and the scratch buffers at some contents. -/
theorem run_first (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : cond0_0 i)
    (x0 : Vec F S1x1x1024x128 .bf16) (x1 : Vec F S1x1x6144x128 .bf16) (x2 : Vec F S1x1x128x6144 .bf16) (xt0 : TbBuf0 (F := F) c tbM0_0)
    (hw : ∀ y, k0_chk1 (tbM0_0.view.read (Elt F) xt0 y)) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare (qcOf x0) ∗ owns (c : Thread nD τ) arg8 fullShare (qsOf x0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := sl_exact hc0)
    iapply (run_tail c i arg3 harg3 arg4 harg4 arg5 harg5 arg6 harg6 arg7 harg7 arg8 harg8 arg9 harg9 arg10 harg10 arg11 harg11 arg12 harg12 _ _ _ _ _ _ _ _ E K)
    isplitl [H2]; · iexact H2
    isplitl [HS1]; · iexact HS1
    isplitl [HS3]; · iexact HS3
    isplitl [H3]; · iexact H3
    iintro ⟨H2, ⟨%g10, HS1⟩, ⟨%g12, HS3⟩, ⟨%g6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option sl_exec.maxSteps 24 in
set_option maxHeartbeats 1600000 in
/-- The body at a grid point whose first branch is not taken: from the inputs' blocks, the lengths' half and everything else at
    anything, it runs and leaves the inputs and the lengths as they were, the codes and the scales of the query tile in
    the second and third outputs, the first output and the scratch buffers at some contents. -/
theorem run_later (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : ¬cond0_0 i)
    (x0 : Vec F S1x1x1024x128 .bf16) (x1 : Vec F S1x1x6144x128 .bf16) (x2 : Vec F S1x1x128x6144 .bf16) (xt0 : TbBuf0 (F := F) c tbM0_0)
    (hw : ∀ y, k0_chk1 (tbM0_0.view.read (Elt F) xt0 y)) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare (qcOf x0) ∗ owns (c : Thread nD τ) arg8 fullShare (qsOf x0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := sl_exact hc0)
    iapply (run_tail c i arg3 harg3 arg4 harg4 arg5 harg5 arg6 harg6 arg7 harg7 arg8 harg8 arg9 harg9 arg10 harg10 arg11 harg11 arg12 harg12 _ _ _ _ _ _ _ _ E K)
    isplitl [H2]; · iexact H2
    isplitl [HS1]; · iexact HS1
    isplitl [HS3]; · iexact HS3
    isplitl [H3]; · iexact H3
    iintro ⟨H2, ⟨%g10, HS1⟩, ⟨%g12, HS3⟩, ⟨%g6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.Kernel.Frame.lean ====
/- The frame of the attention call: its pipeline's proof data, the body at every grid point, the run. -/
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body asks of the prefetched lengths: each keeps its loops inside the arrays. -/
def TblOk : Prop := ∀ y, k0_chk1 (tbM0_0.view.read (Elt F) (tbl m 0) y)

/-- The one output window whose contents are not named: the attention output. -/
def forgets0 : Fin 6 → Bool := fun w => w.val == 3

/-- The proof data of the pipeline on core `c`: each input's buffer at its block, the second output at the codes and the third
    at the scales of the query tile; the scratch buffers and the generator register at anything, the lengths' half held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, _⟩ => qcOf (F := F) (iblk m hO c 0 t)
    | ⟨5, _⟩ => qsOf (F := F) (iblk m hO c 0 t)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_4 (hO : Ok m) (c : Dev nD) (t : Fin (cfgM m hO).N) : (dats m hO 0 c).after 4 t = qcOf (F := F) (iblk m hO c 0 t) := by dsimp only [dats]; try rfl
theorem after0_5 (hO : Ok m) (c : Dev nD) (t : Fin (cfgM m hO).N) : (dats m hO 0 c).after 5 t = qsOf (F := F) (iblk m hO c 0 t) := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ owns (c : Thread nD τ) (ms0_4 m hO t) fullShare ((dats m hO 0 c).after 4 t)
    ∗ owns (c : Thread nD τ) (ms0_5 m hO t) fullShare ((dats m hO 0 c).after 5 t))

set_option maxHeartbeats 1600000 in
/-- The body at any point, by the run of the case the point is in. -/
theorem sound_body (hO : Ok m) (hT : TblOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_4, after0_5]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
  by_cases h0 : t.val % 56 = 0
  · iapply (run_first c (grid0.coords t) _ _ _ _ _ _ _ _ _ _ _ _ _ _ _ _ _ _ _ _ ((hcond0_0 t).mpr h0) (iblk m hO c 0 t) (iblk m hO c 1 t) (iblk m hO c 2 t) (tbl m 0) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · iapply (run_later c (grid0.coords t) _ _ _ _ _ _ _ _ _ _ _ _ _ _ _ _ _ _ _ _ (fun h => h0 ((hcond0_0 t).mp h)) (iblk m hO c 0 t) (iblk m hO c 1 t) (iblk m hO c 2 t) (tbl m 0) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point. -/
theorem body_obligation (hO : Ok m) (hT : TblOk m) (c : Dev nD) : BodyObligation (dats (F := F) m hO 0 c) (defs₀ (F := F)) Variants.none () Set.univ forgets0 := fun t => by
  rw [bigSep_W0, bigSep_W0, defs₀_row m hO]
  exact triple_restated (sound_body m hO hT c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point the invariant gives the scoped rest back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hT : TblOk m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hin := hin m hO) (hout := hout m hO)

/-- Every weakly fair execution of @main terminates with every input array of the pipeline unchanged and the second and third
    outputs at what the proof data says of them. -/
theorem run_main (hO : Ok m) (hT : TblOk m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hT)

/-- `frame` without the counters: the argument arrays end unchanged. -/
theorem unchanged (hO : Ok m) (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO hT)

/-- The frame: every weakly fair execution terminates, the argument arrays end unchanged and every semaphore counter is at
    zero at the end. -/
theorem frame (hO : Ok m) (hT : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hT) ((θ_run defs _ _).mono (fun _ h => h.2) (run_main_quiescent m ρ hO hT))

end Cert.Kernel.Gen

end
-- ==== Proof.Kernel.Chk.lean ====
/- What the attention body assumes of a length holds of every length up to 6144, and the frame under the precondition. -/
module

public import proofs.«01_k».proof.Proof.Kernel.Frame
public import proofs.«01_k».proof.Pre_in_range
public import proofs.«01_k».proof.Defs
public import Idealize.ShloMosaic.Lib.LoopRemainder

@[expose] public section

noncomputable section

namespace Cert.Kernel.Gen

open Idealize.ShloMosaic Idealize.ShloMosaic.TcCoe Idealize.SL.Sem

/-- The number of 256-row chunks of a length up to 6144 is at most 24. -/
theorem chunks_le (w : BitVec 32) (h : w.toInt ≤ 6144) : (Scalar.divsi (Scalar.addi w 255#32) 256#32).toInt ≤ 24 := by
  have e255 : (255#32 : BitVec 32).toInt = 255 := by decide
  have e256 : (256#32 : BitVec 32).toInt = 256 := by decide
  have hlo := BitVec.le_toInt w
  have ha : (Scalar.addi w 255#32).toInt = w.toInt + 255 := by
    have := WordArith.toInt_add_of_bounds w 255#32 (by omega) (by omega)
    rw [e255] at this; exact this
  unfold Scalar.divsi IntOp.divsi
  rw [if_neg (IntOp.not_corner_of_pos (by decide)), BitVec.toInt_sdiv, ha, e256]
  have hq : -(2 ^ 30) ≤ (w.toInt + 255).tdiv 256 ∧ (w.toInt + 255).tdiv 256 ≤ 24 := by
    rcases le_total 0 (w.toInt + 255) with hn | hn
    · rw [Int.tdiv_eq_ediv_of_nonneg hn]; omega
    · rw [show w.toInt + 255 = -(-(w.toInt + 255)) by ring, Int.neg_tdiv, Int.tdiv_eq_ediv_of_nonneg (by omega)]; omega
  have hb : ((w.toInt + 255).tdiv 256).bmod (2 ^ 32) = (w.toInt + 255).tdiv 256 := by
    apply Int.bmod_eq_of_le <;> omega
  rw [hb]
  omega

/-- The bound of a loop over the chunks is their number. -/
theorem bound_eq (x : BitVec 32) :
    Scalar.addi 0#32 (Scalar.muli (Scalar.divsi (Scalar.subi x 0#32) 1#32) 1#32) = x := by
  rw [Scalar.muli_divsi_one]
  simp [Scalar.addi, Scalar.subi, IntOp.addi, IntOp.subi]

/-- A loop from 0 to at most 24 by steps of 1 has a meaning, and fewer than 24 trips before each of its trips. -/
theorem loop_ok (x : BitVec 32) (h : x.toInt ≤ 24) : Scf.OK 0#32 x 1#32 := by
  have e0 : (0#32 : BitVec 32).toInt = 0 := by decide
  have e1 : (1#32 : BitVec 32).toInt = 1 := by decide
  unfold Scf.OK Scf.trips
  rw [e0, e1]
  omega
theorem trips_le (x : BitVec 32) (h : x.toInt ≤ 24) : Scf.trips 0#32 x 1#32 ≤ 24 := by
  have e0 : (0#32 : BitVec 32).toInt = 0 := by decide
  have e1 : (1#32 : BitVec 32).toInt = 1 := by decide
  unfold Scf.trips
  rw [e0, e1]
  omega

/-- The row a trip starts at. -/
theorem row_eq : ∀ k : Fin 24, (Scalar.muli (Scf.iv 0#32 1#32 k.val) 256#32).toNat = 256 * k.val := by decide

theorem row_lt {n : ℕ} (hn : n ≤ 24) (k : Fin n) : (Scalar.muli (Scf.iv 0#32 1#32 k.val) 256#32).toNat = 256 * k.val ∧ k.val < 24 :=
  ⟨row_eq ⟨k.val, lt_of_lt_of_le k.isLt hn⟩, lt_of_lt_of_le k.isLt hn⟩

/-- The body's assumption, of every length up to 6144. -/
theorem chk_of_le (w : BitVec 32) (h : w.toInt ≤ 6144) : k0_chk1 w := by
  have hx := chunks_le w h
  have e1 : (k0_t1_loop w).ub = Scalar.divsi (Scalar.addi w 255#32) 256#32 := bound_eq _
  have e3 : (k0_t3_loop w).ub = Scalar.divsi (Scalar.addi w 255#32) 256#32 := bound_eq _
  have n1 : (k0_t1_loop w).trips ≤ 24 := by
    show Scf.trips 0#32 (k0_t1_loop w).ub 1#32 ≤ 24
    rw [e1]; exact trips_le _ hx
  have n3 : (k0_t3_loop w).trips ≤ 24 := by
    show Scf.trips 0#32 (k0_t3_loop w).ub 1#32 ≤ 24
    rw [e3]; exact trips_le _ hx
  have o1 : (k0_t1_loop w).OK := by
    show Scf.OK 0#32 (k0_t1_loop w).ub 1#32
    rw [e1]; exact loop_ok _ hx
  have o3 : (k0_t3_loop w).OK := by
    show Scf.OK 0#32 (k0_t3_loop w).ub 1#32
    rw [e3]; exact loop_ok _ hx
  refine ⟨o1, fun k => ?_, fun k a => ?_, fun k a => ?_, fun k a => ?_, Scf.rem_ok _ _, fun k => (Scf.rem_no_trip _ _ k).elim,
    fun k => (Scf.rem_no_trip _ _ k).elim, fun k => (Scf.rem_no_trip _ _ k).elim, fun k => (Scf.rem_no_trip _ _ k).elim, o3,
    fun k => ?_, fun k a => ?_, fun k a => ?_, Scf.rem_ok _ _, fun k => (Scf.rem_no_trip _ _ k).elim,
    fun k => (Scf.rem_no_trip _ _ k).elim, fun k => (Scf.rem_no_trip _ _ k).elim⟩
  · obtain ⟨e, -⟩ := row_lt n1 k
    exact ⟨k.val, e⟩
  · obtain ⟨e, l⟩ := row_lt n1 k
    have e' : (k0_off2 w k) 2 = 256 * k.val := e
    fin_cases a
    · exact Nat.le_refl _
    · exact Nat.le_refl _
    · show (k0_off2 w k) 2 + 256 ≤ 6144
      omega
    · exact Nat.le_refl _
  · obtain ⟨e, l⟩ := row_lt n1 k
    have e' : (k0_off3 w k) 0 = 256 * k.val := e
    fin_cases a
    · show (k0_off3 w k) 0 + 256 ≤ 6144
      omega
    · exact Nat.le_refl _
  · obtain ⟨e, l⟩ := row_lt n1 k
    have e' : (k0_off4 w k) 0 = 256 * k.val := e
    fin_cases a
    · show (k0_off4 w k) 0 + 256 ≤ 6144
      omega
    · exact Nat.le_refl _
  · obtain ⟨e, -⟩ := row_lt n3 k
    exact ⟨k.val, e⟩
  · obtain ⟨e, l⟩ := row_lt n3 k
    have e' : (k0_off8 w k) 0 = 256 * k.val := e
    fin_cases a
    · show (k0_off8 w k) 0 + 256 ≤ 6144
      omega
    · exact Nat.le_refl _
  · obtain ⟨e, l⟩ := row_lt n3 k
    have e' : (k0_off9 w k) 3 = 256 * k.val := e
    fin_cases a
    · exact Nat.le_refl _
    · exact Nat.le_refl _
    · exact Nat.le_refl _
    · show (k0_off9 w k) 3 + 256 ≤ 6144
      omega

variable {F : FTy → Type} [FloatOps F] [Cert.Pre_in_range.Facts]

/-- Under the precondition (every length at most 6144) the prefetched lengths are as the body assumes. -/
theorem tblOk_of_pre (m : (ℓ : Loc nD τ sig) → Buf (Elt F) ℓ)
    (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    TblOk m := by
  have ofBool_eq_one (p : Bool) : (BitVec.ofBool p = 1#1) ↔ p = true := by cases p <;> decide
  have bound : ∀ y : S5.Idx, (m (((0 : Dev nD).tc : Thread nD τ).loc main_arg3) y : BitVec 32).toInt ≤ 6144 := by
    intro y
    have e := congrFun (h 0) y
    simp only [Cert.Pre_in_range.fn, cmpi, broadcastInDim, constantI, IntOp.cmpi, ofBool_eq_one] at e
    simpa [BitVec.sle] using e
  intro y
  refine chk_of_le _ ?_
  exact bound y

end Cert.Kernel.Gen

end
-- ==== Proof.KernelIdeal.Points.lean ====
/- When each window of the attention call is fetched and written back, its staging buffer at a grid point,
   and the body as it is called there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 14), at any contents of the tables (its index map reads none). -/
theorem fetch0_1 (a : (pcfg0 (F := F)).Adm) : ∀ t : Fin (cfg0 a).N, ((cfg0 a).win 1).fetch t = true ↔ t.val % 14 = 0 :=
  (by decide +kernel : ∀ t : Fin grid0.N, Pipeline.Window.fetchOf grid0 false cc0_transform_1 t = true ↔ t.val % 14 = 0)
/-- Window 2 (operand 3 (%arg2)) is fetched at the points ≡ 0 (mod 14), at any contents of the tables (its index map reads none). -/
theorem fetch0_2 (a : (pcfg0 (F := F)).Adm) : ∀ t : Fin (cfg0 a).N, ((cfg0 a).win 2).fetch t = true ↔ t.val % 14 = 0 :=
  (by decide +kernel : ∀ t : Fin grid0.N, Pipeline.Window.fetchOf grid0 false cc0_transform_2 t = true ↔ t.val % 14 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mxfp8_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KernelIdeal.Runs.lean ====
/- What the runs of the attention body are stated over: the prefetched lengths, the windows' blocks, the branch
   condition in closed form, the staging and scratch buffers. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 56) — by arithmetic of the point. -/
theorem hcond0_0 : ∀ t : Fin grid0.N, cond0_0 (grid0.coords t) ↔ t.val % 56 = 0 :=
  (fun t => by
    have ht : t.val < 280 := Nat.lt_of_lt_of_eq t.isLt N_0
    have e0 : (grid0.coords t 0).val = t.val / 56 % 5 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 56 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x1024x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x6144x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x128x6144 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x1024 .bf16 := Memref.whole cc0_scratch0
abbrev scM0_1 : Memref sig .tc .vmem S6144x1024 .f32 := Memref.whole cc0_scratch1
abbrev scM0_2 : Memref sig .tc .vmem S6144x128 .bf16 := Memref.whole cc0_scratch2
abbrev scM0_3 : Memref sig .tc .vmem S128x1024 .f32 := Memref.whole cc0_scratch3
/-- The scratch `arg9` the kernel carries between points, as a view: what it holds is stated through it. -/
abbrev VS0_0 : View sig .tc .vmem S256x1024 .bf16 := scM0_0.view
/-- The scratch `arg11` the kernel carries between points, as a view: what it holds is stated through it. -/
abbrev VS0_2 : View sig .tc .vmem S6144x128 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdeal.Run.lean ====
/- The attention body run once at a grid point, on any staging buffers. -/
module

public import proofs.«01_k».proof.Proof.KernelIdeal.Runs
public import proofs.«01_k».proof.Proof.Gen.KernelIdeal.Loops
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The exponent bits of the block scales found so far, and the ones still to try, from the query block. -/
def v79Of (x0 : Vec F S1x1x1024x128 .bf16) := k0_pay14 (F := F) (k0_pay11 x0) (k0_pay12 x0) (k0_pay13 x0) 23#32
def v81Of (x0 : Vec F S1x1x1024x128 .bf16) := k0_pay15 (F := F) (k0_pay11 x0) (k0_pay12 x0) (k0_pay13 x0) 23#32
/-- The codes the body stores for the query block `x0`. -/
def qcOf (x0 : Vec F S1x1x1024x128 .bf16) : Vec F S1x1x1024x128 .fp8e4m3 := k0_pay21 (k0_pay20 (k0_pay10 x0) (k0_pay11 x0) (v79Of x0) (v81Of x0) 23#32)
/-- The block scales the body stores for the query block `x0`. -/
def qsOf (x0 : Vec F S1x1x1024x128 .bf16) : Vec F S1x1x4x1024 .f32 := k0_pay22 (k0_pay17 (k0_pay11 x0) (v79Of x0) (v81Of x0) 23#32)

/-- One trip of the value loop (`k0_t3`): it reads the value tile and the scores and leaves the output accumulator at some
    contents. -/
theorem trip3_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (k : Fin (k0_t3_loop v1).trips) (acc : FVec F S8x1024 .f32) (E : Set ℕ) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ wp frame (wpE (defs₀ (F := F)) Variants.none (c : Thread nD τ) none) E (k0_t3_body (F := F) i tbM0_0 htbM0_0 arg3 harg3 arg4 harg4 arg5 harg5 arg6 harg6 arg7 harg7 arg8 harg8 arg9 harg9 arg10 harg10 arg11 harg11 arg12 harg12 v1 k0_hw1 v152 k acc)
        (fun _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) := by
  iintro ⟨H2, HS1, %f, HS3⟩
  iapply (wp_wand_r Idealize.ShloMosaic.frame (wpE (defs₀ (F := F)) Variants.none (c : Thread nD τ) none) E)
  isplitl [H2 HS1 HS3]
  · iapply ((trip_k0_t3 (F := F) Variants.none c none i tbM0_0 htbM0_0 arg3 harg3 arg4 harg4 arg5 harg5 arg6 harg6 arg7 harg7 arg8 harg8 arg9 harg9 arg10 harg10 arg11 harg11 arg12 harg12 v1 k0_hw1 v152 X5 f10 k).2.2 E acc f)
    isplitl [H2]; · iexact H2
    isplitl [HS1]; · iexact HS1
    iexact HS3
  · iintro %yld ⟨-, H2, HS1, HS3⟩
    isplitl [H2]; · iexact H2
    isplitl [HS1]; · iexact HS1
    iexists _; iexact HS3

/-- The value loop `k0_t3` at the head of a program: the value tile and the scores are kept, the output accumulator is left
    at some contents. -/
theorem loop3_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (init : FVec F S8x1024 .f32) (E : Set ℕ)
    {β : Type} (kk : FVec F S8x1024 .f32 → Prog (TpuEff nD τ sig (Elt F) Λ₀ .tc) β) (Q : β → sProp 𝕄) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ iprop((∀ acc, (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄) -∗ wp frame (wpE (defs₀ (F := F)) Variants.none (c : Thread nD τ) none) E (kk acc) Q)
        -∗ wp frame (wpE (defs₀ (F := F)) Variants.none (c : Thread nD τ) none) E
          (Scf.Loop.for (k0_t3_loop v1) (k0_t3_ok v1 k0_hw1) init (k0_t3_body (F := F) i tbM0_0 htbM0_0 arg3 harg3 arg4 harg4 arg5 harg5 arg6 harg6 arg7 harg7 arg8 harg8 arg9 harg9 arg10 harg10 arg11 harg11 arg12 harg12 v1 k0_hw1 v152) >>= kk) Q) :=
  Scf.wp_for_bind Idealize.ShloMosaic.frame (wpE (defs₀ (F := F)) Variants.none (c : Thread nD τ) none) E
    (k0_t3_loop v1).lb (k0_t3_loop v1).ub (k0_t3_loop v1).st (k0_t3_ok v1 k0_hw1) init _
    (fun _ _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) (fun k acc => trip3_weak c i arg3 harg3 arg4 harg4 arg5 harg5 arg6 harg6 arg7 harg7 arg8 harg8 arg9 harg9 arg10 harg10 arg11 harg11 arg12 harg12 v1 k0_hw1 v152 X5 f10 k acc E)

/-- One trip of the value loop (`k0_t4`): it reads the value tile and the scores and leaves the output accumulator at some
    contents. -/
theorem trip4_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (k : Fin (k0_t4_loop v1).trips) (acc : FVec F S8x1024 .f32) (E : Set ℕ) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ wp frame (wpE (defs₀ (F := F)) Variants.none (c : Thread nD τ) none) E (k0_t4_body (F := F) i tbM0_0 htbM0_0 arg3 harg3 arg4 harg4 arg5 harg5 arg6 harg6 arg7 harg7 arg8 harg8 arg9 harg9 arg10 harg10 arg11 harg11 arg12 harg12 v1 k0_hw1 v152 k acc)
        (fun _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) := by
  iintro ⟨H2, HS1, %f, HS3⟩
  iapply (wp_wand_r Idealize.ShloMosaic.frame (wpE (defs₀ (F := F)) Variants.none (c : Thread nD τ) none) E)
  isplitl [H2 HS1 HS3]
  · iapply ((trip_k0_t4 (F := F) Variants.none c none i tbM0_0 htbM0_0 arg3 harg3 arg4 harg4 arg5 harg5 arg6 harg6 arg7 harg7 arg8 harg8 arg9 harg9 arg10 harg10 arg11 harg11 arg12 harg12 v1 k0_hw1 v152 X5 f10 k).2.2 E acc f)
    isplitl [H2]; · iexact H2
    isplitl [HS1]; · iexact HS1
    iexact HS3
  · iintro %yld ⟨-, H2, HS1, HS3⟩
    isplitl [H2]; · iexact H2
    isplitl [HS1]; · iexact HS1
    iexists _; iexact HS3

/-- The value loop `k0_t4` at the head of a program: the value tile and the scores are kept, the output accumulator is left
    at some contents. -/
theorem loop4_weak (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (f10 : BufTy.Contents (Elt F) arg10.view.ty) (init : FVec F S8x1024 .f32) (E : Set ℕ)
    {β : Type} (kk : FVec F S8x1024 .f32 → Prog (TpuEff nD τ sig (Elt F) Λ₀ .tc) β) (Q : β → sProp 𝕄) :
    (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)
      ⊢ iprop((∀ acc, (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄) -∗ wp frame (wpE (defs₀ (F := F)) Variants.none (c : Thread nD τ) none) E (kk acc) Q)
        -∗ wp frame (wpE (defs₀ (F := F)) Variants.none (c : Thread nD τ) none) E
          (Scf.Loop.for (k0_t4_loop v1) (k0_t4_ok v1 k0_hw1) init (k0_t4_body (F := F) i tbM0_0 htbM0_0 arg3 harg3 arg4 harg4 arg5 harg5 arg6 harg6 arg7 harg7 arg8 harg8 arg9 harg9 arg10 harg10 arg11 harg11 arg12 harg12 v1 k0_hw1 v152) >>= kk) Q) :=
  Scf.wp_for_bind Idealize.ShloMosaic.frame (wpE (defs₀ (F := F)) Variants.none (c : Thread nD τ) none) E
    (k0_t4_loop v1).lb (k0_t4_loop v1).ub (k0_t4_loop v1).st (k0_t4_ok v1 k0_hw1) init _
    (fun _ _ => (iprop((arg5.view.loc (c : Thread nD τ) ↦[arg5.view.set]{fullShare} X5) ∗ (arg10.view.loc (c : Thread nD τ) ↦[arg10.view.set]{fullShare} f10) ∗ (∃ f, arg12.view.loc (c : Thread nD τ) ↦[arg12.view.set]{fullShare} f)) : sProp 𝕄)) (fun k acc => trip4_weak c i arg3 harg3 arg4 harg4 arg5 harg5 arg6 harg6 arg7 harg7 arg8 harg8 arg9 harg9 arg10 harg10 arg11 harg11 arg12 harg12 v1 k0_hw1 v152 X5 f10 k acc E)

/-- A whole load of the query tile reads what the tile was given. -/
theorem read_query (arg3 : Memref sig .tc .vmem S1x1x1024x128 .bf16) (harg3 : arg3.IsWhole) (x0 : Vec F S1x1x1024x128 .bf16)
    (inb : ∀ a, (![0, 0, 0, 0] : Fin 4 → ℕ) a + S1x1x1024x128.size a ≤ S1x1x1024x128.size a) :
    arg3.view.readAt (Elt F) (Rect.unit (s := S1x1x1024x128) ![0, 0, 0, 0] S1x1x1024x128.size inb).toLoadRect (harg3.unread x0) = x0 :=
  (View.readAt_full ..).trans (harg3.read_unread _)

set_option maxHeartbeats 1600000 in
/-- The second half of the body at a grid point: the loops over the value chunks and the store of the output tile, from any
    scores and any accumulator. -/
theorem run_tail (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (v157 : FVec F S8x1024 .f32)
    (X5 : BufTy.Contents (Elt F) arg5.view.ty) (f10 : BufTy.Contents (Elt F) arg10.view.ty) (f12 : BufTy.Contents (Elt F) arg12.view.ty) (f6 : BufTy.Contents (Elt F) arg6.view.ty)
    (E : Set ℕ) (K : PUnit → sProp 𝕄) :
    iprop((arg5.view.loc (c : Thread nD τ) ↦[arg5.view.set]{fullShare} X5) ∗ (arg10.view.loc (c : Thread nD τ) ↦[arg10.view.set]{fullShare} f10) ∗ (arg12.view.loc (c : Thread nD τ) ↦[arg12.view.set]{fullShare} f12) ∗ (arg6.view.loc (c : Thread nD τ) ↦[arg6.view.set]{fullShare} f6) ∗ (iprop((arg5.view.loc (c : Thread nD τ) ↦[arg5.view.set]{fullShare} X5) ∗ (∃ f, arg10.view.loc (c : Thread nD τ) ↦[arg10.view.set]{fullShare} f) ∗ (∃ f, arg12.view.loc (c : Thread nD τ) ↦[arg12.view.set]{fullShare} f) ∗ (∃ f, arg6.view.loc (c : Thread nD τ) ↦[arg6.view.set]{fullShare} f)) -∗ K ⟨⟩))
      ⊢ wp frame (wpE (defs₀ (F := F)) Variants.none c none) E (do
        let v163 : FVec F S8x1024 .f32 ← Scf.Loop.for (k0_t3_loop v1) (k0_t3_ok v1 k0_hw1) v157 (k0_t3_body i tbM0_0 htbM0_0 arg3 harg3 arg4 harg4 arg5 harg5 arg6 harg6 arg7 harg7 arg8 harg8 arg9 harg9 arg10 harg10 arg11 harg11 arg12 harg12 v1 k0_hw1 v152)
        let v164 : FVec F S8x1024 .f32 ← Scf.Loop.for (k0_t4_loop v1) (k0_t4_ok v1 k0_hw1) v163 (k0_t4_body i tbM0_0 htbM0_0 arg3 harg3 arg4 harg4 arg5 harg5 arg6 harg6 arg7 harg7 arg8 harg8 arg9 harg9 arg10 harg10 arg11 harg11 arg12 harg12 v1 k0_hw1 v152)
        let v169 : Vec F S128x1024 .f32 ← Prog.lift (.load arg12 (Rect.unit (s := S128x1024) ![0, 0] S128x1024.size inb_S128x1024_S128x1024_0_0).toLoadRect (View.loadsAt_vmem h_S128x1024))
        let v174 : Vec F S1x1x1024x128 .bf16 ← Prog.lift (.load arg6 (Rect.unit (s := S1x1x1024x128) ![0, 0, 0, 0] S1x1x1024x128.size inb_S1x1x1024x128_S1x1x1024x128_0_0_0_0).toLoadRect (View.loadsAt_vmem h_S1x1x1024x128))
        Prog.lift (.store arg6 (Rect.unit (s := S1x1x1024x128) ![0, 0, 0, 0] S1x1x1024x128.size inb_S1x1x1024x128_S1x1x1024x128_0_0_0_0) (k0_pay7 v164 v169) Finset.univ (View.stores_vmem h_S1x1x1024x128 (harg6.storeExact_slice rfl _ packedbf16_S1x1x1024x128_S1x1x1024x128_0_0_0_0) (fun _ => rfl)) (.inl rfl))
        pure ⟨⟩) K := by
    iintro ⟨H2, HS1, HS3, H3, Hk⟩
    iapply (loop3_weak c i arg3 harg3 arg4 harg4 arg5 harg5 arg6 harg6 arg7 harg7 arg8 harg8 arg9 harg9 arg10 harg10 arg11 harg11 arg12 harg12 v1 k0_hw1 v152 X5 f10 v157 E _ K) $$ [H2 HS1 HS3]
    · isplitl [H2]; · iexact H2
      isplitl [HS1]; · iexact HS1
      iexists _; iexact HS3
    iintro %acc3 ⟨H2, HS1, %g3, HS3⟩
    iapply (loop4_weak c i arg3 harg3 arg4 harg4 arg5 harg5 arg6 harg6 arg7 harg7 arg8 harg8 arg9 harg9 arg10 harg10 arg11 harg11 arg12 harg12 v1 k0_hw1 v152 X5 f10 acc3 E _ K) $$ [H2 HS1 HS3]
    · isplitl [H2]; · iexact H2
      isplitl [HS1]; · iexact HS1
      iexists _; iexact HS3
    iintro %acc4 ⟨H2, HS1, %g4, HS3⟩
    sl_exec
    sl_step
    iapply Hk
    isplitl [H2]; · iexact H2
    isplitl [HS1]; · iexists _; iexact HS1
    isplitl [HS3]; · iexists _; iexact HS3
    iexists _; iexact H3

set_option sl_exec.maxSteps 30 in
set_option maxHeartbeats 1600000 in
/-- The body at a grid point whose first branch is taken: from the inputs' blocks, the lengths' half and everything else at
    anything, it runs and leaves the inputs and the lengths as they were, the codes and the scales of the query tile in
    the second and third outputs, the first output and the scratch buffers at some contents. -/
theorem run_first (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : cond0_0 i)
    (x0 : Vec F S1x1x1024x128 .bf16) (x1 : Vec F S1x1x6144x128 .bf16) (x2 : Vec F S1x1x128x6144 .bf16) (xt0 : TbBuf0 (F := F) c tbM0_0)
    (hw : ∀ y, k0_chk1 (tbM0_0.view.read (Elt F) xt0 y)) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare (qcOf x0) ∗ owns (c : Thread nD τ) arg8 fullShare (qsOf x0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := sl_exact hc0)
    iapply (run_tail c i arg3 harg3 arg4 harg4 arg5 harg5 arg6 harg6 arg7 harg7 arg8 harg8 arg9 harg9 arg10 harg10 arg11 harg11 arg12 harg12 _ _ _ _ _ _ _ _ E K)
    isplitl [H2]; · iexact H2
    isplitl [HS1]; · iexact HS1
    isplitl [HS3]; · iexact HS3
    isplitl [H3]; · iexact H3
    iintro ⟨H2, ⟨%g10, HS1⟩, ⟨%g12, HS3⟩, ⟨%g6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option sl_exec.maxSteps 24 in
set_option maxHeartbeats 1600000 in
/-- The body at a grid point whose first branch is not taken: from the inputs' blocks, the lengths' half and everything else at
    anything, it runs and leaves the inputs and the lengths as they were, the codes and the scales of the query tile in
    the second and third outputs, the first output and the scratch buffers at some contents. -/
theorem run_later (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : ¬cond0_0 i)
    (x0 : Vec F S1x1x1024x128 .bf16) (x1 : Vec F S1x1x6144x128 .bf16) (x2 : Vec F S1x1x128x6144 .bf16) (xt0 : TbBuf0 (F := F) c tbM0_0)
    (hw : ∀ y, k0_chk1 (tbM0_0.view.read (Elt F) xt0 y)) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare (qcOf x0) ∗ owns (c : Thread nD τ) arg8 fullShare (qsOf x0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := sl_exact hc0)
    iapply (run_tail c i arg3 harg3 arg4 harg4 arg5 harg5 arg6 harg6 arg7 harg7 arg8 harg8 arg9 harg9 arg10 harg10 arg11 harg11 arg12 harg12 _ _ _ _ _ _ _ _ E K)
    isplitl [H2]; · iexact H2
    isplitl [HS1]; · iexact HS1
    isplitl [HS3]; · iexact HS3
    isplitl [H3]; · iexact H3
    iintro ⟨H2, ⟨%g10, HS1⟩, ⟨%g12, HS3⟩, ⟨%g6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KernelIdeal.Frame.lean ====
/- The frame of the attention call: its pipeline's proof data, the body at every grid point, the run. -/
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body asks of the prefetched lengths: each keeps its loops inside the arrays. -/
def TblOk : Prop := ∀ y, k0_chk1 (tbM0_0.view.read (Elt F) (tbl m 0) y)

/-- The one output window whose contents are not named: the attention output. -/
def forgets0 : Fin 6 → Bool := fun w => w.val == 3

/-- The proof data of the pipeline on core `c`: each input's buffer at its block, the second output at the codes and the third
    at the scales of the query tile; the scratch buffers and the generator register at anything, the lengths' half held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, _⟩ => qcOf (F := F) (iblk m hO c 0 t)
    | ⟨5, _⟩ => qsOf (F := F) (iblk m hO c 0 t)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_4 (hO : Ok m) (c : Dev nD) (t : Fin (cfgM m hO).N) : (dats m hO 0 c).after 4 t = qcOf (F := F) (iblk m hO c 0 t) := by dsimp only [dats]; try rfl
theorem after0_5 (hO : Ok m) (c : Dev nD) (t : Fin (cfgM m hO).N) : (dats m hO 0 c).after 5 t = qsOf (F := F) (iblk m hO c 0 t) := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ owns (c : Thread nD τ) (ms0_4 m hO t) fullShare ((dats m hO 0 c).after 4 t)
    ∗ owns (c : Thread nD τ) (ms0_5 m hO t) fullShare ((dats m hO 0 c).after 5 t))

set_option maxHeartbeats 1600000 in
/-- The body at any point, by the run of the case the point is in. -/
theorem sound_body (hO : Ok m) (hT : TblOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_4, after0_5]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
  by_cases h0 : t.val % 56 = 0
  · iapply (run_first c (grid0.coords t) _ _ _ _ _ _ _ _ _ _ _ _ _ _ _ _ _ _ _ _ ((hcond0_0 t).mpr h0) (iblk m hO c 0 t) (iblk m hO c 1 t) (iblk m hO c 2 t) (tbl m 0) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · iapply (run_later c (grid0.coords t) _ _ _ _ _ _ _ _ _ _ _ _ _ _ _ _ _ _ _ _ (fun h => h0 ((hcond0_0 t).mp h)) (iblk m hO c 0 t) (iblk m hO c 1 t) (iblk m hO c 2 t) (tbl m 0) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point. -/
theorem body_obligation (hO : Ok m) (hT : TblOk m) (c : Dev nD) : BodyObligation (dats (F := F) m hO 0 c) (defs₀ (F := F)) Variants.none () Set.univ forgets0 := fun t => by
  rw [bigSep_W0, bigSep_W0, defs₀_row m hO]
  exact triple_restated (sound_body m hO hT c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point the invariant gives the scoped rest back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hT : TblOk m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hin := hin m hO) (hout := hout m hO)

/-- Every weakly fair execution of @main terminates with every input array of the pipeline unchanged and the second and third
    outputs at what the proof data says of them. -/
theorem run_main (hO : Ok m) (hT : TblOk m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hT)

/-- `frame` without the counters: the argument arrays end unchanged. -/
theorem unchanged (hO : Ok m) (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO hT)

/-- The frame: every weakly fair execution terminates, the argument arrays end unchanged and every semaphore counter is at
    zero at the end. -/
theorem frame (hO : Ok m) (hT : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hT) ((θ_run defs _ _).mono (fun _ h => h.2) (run_main_quiescent m ρ hO hT))

end Cert.KernelIdeal.Gen

end
-- ==== Proof.KernelIdeal.Chk.lean ====
/- What the attention body assumes of a length holds of every length up to 6144, and the frame under the precondition. -/
module

public import proofs.«01_k».proof.Proof.KernelIdeal.Frame
public import proofs.«01_k».proof.Pre_in_range
public import proofs.«01_k».proof.Defs
public import Idealize.ShloMosaic.Lib.LoopRemainder

@[expose] public section

noncomputable section

namespace Cert.KernelIdeal.Gen

open Idealize.ShloMosaic Idealize.ShloMosaic.TcCoe Idealize.SL.Sem

/-- The number of 256-row chunks of a length up to 6144 is at most 24. -/
theorem chunks_le (w : BitVec 32) (h : w.toInt ≤ 6144) : (Scalar.divsi (Scalar.addi w 255#32) 256#32).toInt ≤ 24 := by
  have e255 : (255#32 : BitVec 32).toInt = 255 := by decide
  have e256 : (256#32 : BitVec 32).toInt = 256 := by decide
  have hlo := BitVec.le_toInt w
  have ha : (Scalar.addi w 255#32).toInt = w.toInt + 255 := by
    have := WordArith.toInt_add_of_bounds w 255#32 (by omega) (by omega)
    rw [e255] at this; exact this
  unfold Scalar.divsi IntOp.divsi
  rw [if_neg (IntOp.not_corner_of_pos (by decide)), BitVec.toInt_sdiv, ha, e256]
  have hq : -(2 ^ 30) ≤ (w.toInt + 255).tdiv 256 ∧ (w.toInt + 255).tdiv 256 ≤ 24 := by
    rcases le_total 0 (w.toInt + 255) with hn | hn
    · rw [Int.tdiv_eq_ediv_of_nonneg hn]; omega
    · rw [show w.toInt + 255 = -(-(w.toInt + 255)) by ring, Int.neg_tdiv, Int.tdiv_eq_ediv_of_nonneg (by omega)]; omega
  have hb : ((w.toInt + 255).tdiv 256).bmod (2 ^ 32) = (w.toInt + 255).tdiv 256 := by
    apply Int.bmod_eq_of_le <;> omega
  rw [hb]
  omega

/-- The bound of a loop over the chunks is their number. -/
theorem bound_eq (x : BitVec 32) :
    Scalar.addi 0#32 (Scalar.muli (Scalar.divsi (Scalar.subi x 0#32) 1#32) 1#32) = x := by
  rw [Scalar.muli_divsi_one]
  simp [Scalar.addi, Scalar.subi, IntOp.addi, IntOp.subi]

/-- A loop from 0 to at most 24 by steps of 1 has a meaning, and fewer than 24 trips before each of its trips. -/
theorem loop_ok (x : BitVec 32) (h : x.toInt ≤ 24) : Scf.OK 0#32 x 1#32 := by
  have e0 : (0#32 : BitVec 32).toInt = 0 := by decide
  have e1 : (1#32 : BitVec 32).toInt = 1 := by decide
  unfold Scf.OK Scf.trips
  rw [e0, e1]
  omega
theorem trips_le (x : BitVec 32) (h : x.toInt ≤ 24) : Scf.trips 0#32 x 1#32 ≤ 24 := by
  have e0 : (0#32 : BitVec 32).toInt = 0 := by decide
  have e1 : (1#32 : BitVec 32).toInt = 1 := by decide
  unfold Scf.trips
  rw [e0, e1]
  omega

/-- The row a trip starts at. -/
theorem row_eq : ∀ k : Fin 24, (Scalar.muli (Scf.iv 0#32 1#32 k.val) 256#32).toNat = 256 * k.val := by decide

theorem row_lt {n : ℕ} (hn : n ≤ 24) (k : Fin n) : (Scalar.muli (Scf.iv 0#32 1#32 k.val) 256#32).toNat = 256 * k.val ∧ k.val < 24 :=
  ⟨row_eq ⟨k.val, lt_of_lt_of_le k.isLt hn⟩, lt_of_lt_of_le k.isLt hn⟩

/-- The body's assumption, of every length up to 6144. -/
theorem chk_of_le (w : BitVec 32) (h : w.toInt ≤ 6144) : k0_chk1 w := by
  have hx := chunks_le w h
  have e1 : (k0_t1_loop w).ub = Scalar.divsi (Scalar.addi w 255#32) 256#32 := bound_eq _
  have e3 : (k0_t3_loop w).ub = Scalar.divsi (Scalar.addi w 255#32) 256#32 := bound_eq _
  have n1 : (k0_t1_loop w).trips ≤ 24 := by
    show Scf.trips 0#32 (k0_t1_loop w).ub 1#32 ≤ 24
    rw [e1]; exact trips_le _ hx
  have n3 : (k0_t3_loop w).trips ≤ 24 := by
    show Scf.trips 0#32 (k0_t3_loop w).ub 1#32 ≤ 24
    rw [e3]; exact trips_le _ hx
  have o1 : (k0_t1_loop w).OK := by
    show Scf.OK 0#32 (k0_t1_loop w).ub 1#32
    rw [e1]; exact loop_ok _ hx
  have o3 : (k0_t3_loop w).OK := by
    show Scf.OK 0#32 (k0_t3_loop w).ub 1#32
    rw [e3]; exact loop_ok _ hx
  refine ⟨o1, fun k => ?_, fun k a => ?_, fun k a => ?_, fun k a => ?_, Scf.rem_ok _ _, fun k => (Scf.rem_no_trip _ _ k).elim,
    fun k => (Scf.rem_no_trip _ _ k).elim, fun k => (Scf.rem_no_trip _ _ k).elim, fun k => (Scf.rem_no_trip _ _ k).elim, o3,
    fun k => ?_, fun k a => ?_, fun k a => ?_, Scf.rem_ok _ _, fun k => (Scf.rem_no_trip _ _ k).elim,
    fun k => (Scf.rem_no_trip _ _ k).elim, fun k => (Scf.rem_no_trip _ _ k).elim⟩
  · obtain ⟨e, -⟩ := row_lt n1 k
    exact ⟨k.val, e⟩
  · obtain ⟨e, l⟩ := row_lt n1 k
    have e' : (k0_off2 w k) 2 = 256 * k.val := e
    fin_cases a
    · exact Nat.le_refl _
    · exact Nat.le_refl _
    · show (k0_off2 w k) 2 + 256 ≤ 6144
      omega
    · exact Nat.le_refl _
  · obtain ⟨e, l⟩ := row_lt n1 k
    have e' : (k0_off3 w k) 0 = 256 * k.val := e
    fin_cases a
    · show (k0_off3 w k) 0 + 256 ≤ 6144
      omega
    · exact Nat.le_refl _
  · obtain ⟨e, l⟩ := row_lt n1 k
    have e' : (k0_off4 w k) 0 = 256 * k.val := e
    fin_cases a
    · show (k0_off4 w k) 0 + 256 ≤ 6144
      omega
    · exact Nat.le_refl _
  · obtain ⟨e, -⟩ := row_lt n3 k
    exact ⟨k.val, e⟩
  · obtain ⟨e, l⟩ := row_lt n3 k
    have e' : (k0_off8 w k) 0 = 256 * k.val := e
    fin_cases a
    · show (k0_off8 w k) 0 + 256 ≤ 6144
      omega
    · exact Nat.le_refl _
  · obtain ⟨e, l⟩ := row_lt n3 k
    have e' : (k0_off9 w k) 3 = 256 * k.val := e
    fin_cases a
    · exact Nat.le_refl _
    · exact Nat.le_refl _
    · exact Nat.le_refl _
    · show (k0_off9 w k) 3 + 256 ≤ 6144
      omega

variable {F : FTy → Type} [FloatOps F] [Named F] [Cert.Pre_in_range.Facts]

/-- Under the precondition (every length at most 6144) the prefetched lengths are as the body assumes. -/
theorem tblOk_of_pre (m : (ℓ : Loc nD τ sig) → Buf (Elt F) ℓ)
    (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    TblOk m := by
  have ofBool_eq_one (p : Bool) : (BitVec.ofBool p = 1#1) ↔ p = true := by cases p <;> decide
  have bound : ∀ y : S5.Idx, (m (((0 : Dev nD).tc : Thread nD τ).loc main_arg3) y : BitVec 32).toInt ≤ 6144 := by
    intro y
    have e := congrFun (h 0) y
    simp only [Cert.Pre_in_range.fn, cmpi, broadcastInDim, constantI, IntOp.cmpi, ofBool_eq_one] at e
    simpa [BitVec.sle] using e
  intro y
  refine chk_of_le _ ?_
  exact bound y

end Cert.KernelIdeal.Gen

end
-- ==== Proof.Value.Scale.lean ====
/- The exponent of a block scale, over the extended reals: the eight-step search of the kernel and the reference's logarithm. -/
module

public import Idealize.ShloMosaic.PureOps.Ideal
public import Idealize.ShloMosaic.PureOps.Ideal.Laws

@[expose] public section

noncomputable section

namespace Cert.Scale

open Idealize.ShloMosaic

/-- The float whose bits are the word `w` moved to the exponent field. -/
def pwW (w : BitVec 32) : EReal := Ideal.ofBits .f32 (w <<< 23)

/-- The float whose exponent field is `n` and whose other bits are zero. -/
def pw (n : ℕ) : EReal := pwW (BitVec.ofNat 32 n)

theorem pw_zero : pw 0 = 0 := by
  unfold pw pwW; simp [Ideal.ofBits, Ideal.ieee]

theorem field_key : ∀ n : Fin 255, (((BitVec.ofNat 32 n.val <<< 23).extractLsb' (8 + 23) 1 == 1#1) = false)
      ∧ ((BitVec.ofNat 32 n.val <<< 23).extractLsb' 23 8).toNat = n.val
      ∧ ((BitVec.ofNat 32 n.val <<< 23).extractLsb' 0 23).toNat = 0 := by decide +kernel

theorem ieee_of (w : BitVec 32) (n : ℕ) (h1 : 1 ≤ n) (h2 : n ≤ 254) (k1 : (w.extractLsb' (8 + 23) 1 == 1#1) = false)
    (k2 : (w.extractLsb' 23 8).toNat = n) (k3 : (w.extractLsb' 0 23).toNat = 0) :
    Ideal.ieee 8 23 w = (((2 : ℝ) ^ ((n : ℤ) - 127) : ℝ) : EReal) := by
  unfold Ideal.ieee
  simp only [k1, k2, k3]
  rw [if_neg (by norm_num; omega), if_neg (by omega)]
  congr 1
  simp only [Bool.false_eq_true, if_false, one_mul, add_zero]
  rw [show ((n : ℤ) - 127) = 23 + ((n : ℤ) - (2 ^ (8 - 1) - 1) - (23 : ℕ)) by norm_num, zpow_add₀ (by norm_num)]
  norm_num

theorem pw_eq (n : ℕ) (h1 : 1 ≤ n) (h2 : n ≤ 254) : pw n = (((2 : ℝ) ^ ((n : ℤ) - 127) : ℝ) : EReal) := by
  have k := field_key ⟨n, by omega⟩
  exact ieee_of _ n h1 h2 k.1 k.2.1 k.2.2

/-- One step of the search: the bit `b` is kept if the float it makes is at most `y`. -/
def step (y : EReal) (b w : BitVec 32) : BitVec 32 := if Ideal.cmp .oge y (pwW (w + b)) = 1#1 then w + b else w

/-- The eight steps, from the highest bit down. -/
def search (y : EReal) : BitVec 32 :=
  step y 1 (step y 2 (step y 4 (step y 8 (step y 16 (step y 32 (step y 64 (step y 128 0)))))))

/-- What holds of the field `f` found when the bits below `b` are still to try. -/
def Inv (y : EReal) (b : ℕ) (w : BitVec 32) : Prop :=
  ∃ f : ℕ, w = BitVec.ofNat 32 f ∧ f + b ≤ 256 ∧ pw f ≤ y ∧ (f + b = 256 ∨ y < pw (f + b))

theorem Inv.step {y : EReal} {b : ℕ} {w : BitVec 32} (h : Inv y (2 * b) w) : Inv y b (step y (BitVec.ofNat 32 b) w) := by
  obtain ⟨f, rfl, h1, h2, h3⟩ := h
  have e : BitVec.ofNat 32 f + BitVec.ofNat 32 b = BitVec.ofNat 32 (f + b) := (BitVec.ofNat_add f b).symm
  unfold Cert.Scale.step
  rw [e]
  by_cases hc : pw (f + b) ≤ y
  · rw [if_pos (by unfold Ideal.cmp; simp only [pw] at hc; simp [hc])]
    exact ⟨f + b, rfl, by omega, hc, by rw [show f + b + b = f + 2 * b by ring]; exact h3⟩
  · rw [if_neg (by unfold Ideal.cmp; simp only [pw] at hc; simp [hc])]
    exact ⟨f, rfl, by omega, h2, .inr (not_le.mp hc)⟩

theorem search_spec (y : EReal) (hy : 0 ≤ y) : Inv y 1 (search y) := by
  have h : Inv y (2 * 128) 0 := ⟨0, rfl, by norm_num, by rw [pw_zero]; exact hy, .inl (by norm_num)⟩
  exact Inv.step (b := 1) (Inv.step (b := 2) (Inv.step (b := 4) (Inv.step (b := 8) (Inv.step (b := 16)
    (Inv.step (b := 32) (Inv.step (b := 64) (Inv.step (b := 128) h)))))))

/-- The scale the kernel makes of `y`. -/
def kscale (y : EReal) : EReal :=
  pwW (127#32 + (if ((Ideal.cmp .oeq y (Ideal.ofBits .f32 0x00000000#32) ||| Ideal.cmp .oeq y (Ideal.ofBits .f32 0x7F800000#32))
    ||| Ideal.cmp .one y y) = 1#1 then 0#32 else search y - 126#32))

theorem inf_bits : Ideal.ofBits .f32 0x7F800000#32 = ⊤ := by
  simp [Ideal.ofBits, Ideal.ieee]
theorem zero_bits : Ideal.ofBits .f32 0x00000000#32 = 0 := by
  simp [Ideal.ofBits, Ideal.ieee]
theorem pw_mono {m n : ℕ} (h1 : 1 ≤ m) (h : m ≤ n) (h2 : n ≤ 254) : pw m ≤ pw n := by
  rw [pw_eq m h1 (by omega), pw_eq n (by omega) h2, EReal.coe_le_coe_iff]
  exact zpow_le_zpow_right₀ (by norm_num) (by omega)

/-- Above zero and below the largest power of two the kernel's scale is a power of two above `y`, and the least such. -/
theorem kscale_spec {y : EReal} (h0 : 0 < y) (h1 : y < pw 254) :
    ∃ n, 1 ≤ n ∧ n ≤ 254 ∧ kscale y = pw n ∧ y < pw n ∧ ∀ k, 1 ≤ k → k < n → pw k ≤ y := by
  obtain ⟨f, hf, hb, hl, hu⟩ := search_spec y h0.le
  have hf254 : f < 254 := by
    by_contra hc
    have := pw_mono (m := 254) (n := 254) (by norm_num) le_rfl le_rfl
    rcases Nat.lt_or_ge f 255 with h | h
    · have : f = 254 := by omega
      subst this; exact absurd h1 (not_lt.mpr hl)
    · have : f = 255 := by omega
      subst this
      have ht : pw 255 = ⊤ := by unfold pw pwW; simp [Ideal.ofBits, Ideal.ieee]
      rw [ht] at hl
      exact absurd (lt_of_le_of_lt hl h1) not_top_lt
  have hu' : y < pw (f + 1) := by rcases hu with h | h; · omega
                                  · exact h
  refine ⟨f + 1, by omega, by omega, ?_, hu', fun k hk1 hk2 => ?_⟩
  · unfold kscale
    have ht : y ≠ ⊤ := ne_top_of_lt h1
    rw [if_neg (by rw [zero_bits, inf_bits]; simp [Ideal.cmp, h0.ne', ht]), hf]
    unfold pw
    congr 1
    rw [BitVec.ofNat_add]
    generalize BitVec.ofNat 32 f = w
    rw [BitVec.sub_eq_add_neg, BitVec.add_comm, BitVec.add_assoc]
    rfl
  · exact (pw_mono hk1 (by omega) (by omega)).trans hl

theorem kscale_zero : kscale 0 = pw 127 := by
  unfold kscale
  rw [if_pos (by rw [zero_bits, inf_bits]; simp [Ideal.cmp])]
  rfl

/-- The inverse of that scale as the kernel makes it. -/
def kinv (y : EReal) : EReal :=
  pwW (127#32 - (if ((Ideal.cmp .oeq y (Ideal.ofBits .f32 0x00000000#32) ||| Ideal.cmp .oeq y (Ideal.ofBits .f32 0x7F800000#32))
    ||| Ideal.cmp .one y y) = 1#1 then 0#32 else search y - 126#32))

theorem pw_one : pw 127 = ((1 : ℝ) : EReal) := by
  rw [pw_eq 127 (by norm_num) (by norm_num)]; norm_num

theorem inv_pw (f : ℕ) (h : f ≤ 252) : Ideal.div (pw 127) (pw (f + 1)) = pw (253 - f) := by
  rw [pw_one, pw_eq (f + 1) (by omega) (by omega), pw_eq (253 - f) (by omega) (by omega)]
  have hp : ((2 : ℝ) ^ (((f + 1 : ℕ) : ℤ) - 127)) ≠ 0 := by positivity
  have e : (1 : ℝ) / (2 : ℝ) ^ (((f + 1 : ℕ) : ℤ) - 127) = (2 : ℝ) ^ (((253 - f : ℕ) : ℤ) - 127) := by
    rw [one_div, ← zpow_neg]
    congr 1
    omega
  rw [← e]
  unfold Ideal.div
  rw [if_neg (by rw [EReal.coe_eq_zero]; exact hp), ← EReal.coe_inv, ← EReal.coe_mul, div_eq_mul_inv]

/-- The kernel's inverse is one over its scale. -/
theorem kinv_eq {y : EReal} (h0 : 0 ≤ y) (h1 : y < pw 253) : kinv y = Ideal.div (pw 127) (kscale y) := by
  rcases eq_or_lt_of_le h0 with h | h
  · subst h
    rw [kscale_zero]
    unfold kinv
    rw [if_pos (by rw [zero_bits, inf_bits]; simp [Ideal.cmp])]
    exact (inv_pw 126 (by norm_num)).symm
  · obtain ⟨f, hf, hb, hl, hu⟩ := search_spec y h0
    have hf252 : f ≤ 252 := by
      by_contra hc
      rcases Nat.lt_or_ge f 255 with h' | h'
      · exact absurd h1 (not_lt.mpr ((pw_mono (by norm_num) (by omega) (by omega)).trans hl))
      · have : f = 255 := by omega
        subst this
        have ht : pw 255 = ⊤ := by unfold pw pwW; simp [Ideal.ofBits, Ideal.ieee]
        rw [ht] at hl
        exact absurd (lt_of_le_of_lt hl h1) not_top_lt
    have ht : y ≠ ⊤ := ne_top_of_lt h1
    have hif : ¬ ((Ideal.cmp .oeq y (Ideal.ofBits .f32 0x00000000#32) ||| Ideal.cmp .oeq y (Ideal.ofBits .f32 0x7F800000#32))
        ||| Ideal.cmp .one y y) = 1#1 := by rw [zero_bits, inf_bits]; simp [Ideal.cmp, h.ne', ht]
    have e1 : kscale y = pw (f + 1) := by
      unfold kscale
      rw [if_neg hif, hf]
      unfold pw
      congr 1
      rw [BitVec.ofNat_add]
      generalize BitVec.ofNat 32 f = w
      rw [BitVec.sub_eq_add_neg, BitVec.add_comm, BitVec.add_assoc]
      rfl
    have key : ∀ f : Fin 253, 127#32 - (BitVec.ofNat 32 f.val - 126#32) = BitVec.ofNat 32 (253 - f.val) := by decide +kernel
    rw [e1, inv_pw f hf252]
    unfold kinv
    rw [if_neg hif, hf]
    exact congrArg pwW (key ⟨f, by omega⟩)

end Cert.Scale
end
-- ==== Proof.Value.RefElem.lean ====
/- The reference's scales, element by element: a block's scale is a function of the block's largest absolute value. -/
module

public import proofs.«01_k».proof.Proof.Value.Scale
public import proofs.«01_k».proof.Proof.Gen.ReferenceIdeal
public import Idealize.ShloMosaic.Lib.Pointwise

@[expose] public section

set_option maxRecDepth 65536

noncomputable section

namespace Cert.Scale

open Idealize.ShloMosaic

/-- The least power of two above `y`, of those from `2^-126` up. -/
def least (y : EReal) : EReal := Finset.univ.fold min (Ideal.ofBits .f32 0x7F800000#32) fun k : Fin 254 => if y < pw (k.val + 1) then pw (k.val + 1) else Ideal.ofBits .f32 0x7F800000#32

/-- The scale of a block whose largest absolute value is `a`. -/
def rscale (a : EReal) : EReal :=
  if a = Ideal.ofBits .f32 0x00000000#32 then Ideal.ofBits .f32 0x3F800000#32 else least (a * Ideal.ofBits .f32 0x3B124925#32)

/-- The largest absolute value of feature block `n` of row `r` in query tile `(b, g)`. -/
def amax (q : (⟨4, ![5, 56, 1024, 128]⟩ : Shape).Idx → EReal) (b : Fin 5) (g : Fin 56) (r : Fin 1024) (n : Fin 4) : EReal :=
  Finset.univ.fold max (Ideal.ofBits .f32 0xFF800000#32) fun k : Fin 32 => FloatOps.absf (F := Ideal) (φ := .f32) (q (ix4 b g r ⟨n.val * 32 + k.val, by omega⟩))

/-- A code's value kept within the largest an eight-bit float holds. -/
def clip (x : EReal) : EReal := FloatOps.minimumf (F := Ideal) (φ := .f32) (Ideal.ofBits .f32 0x43E00000#32) (FloatOps.maximumf (F := Ideal) (φ := .f32) (Ideal.ofBits .f32 0xC3E00000#32) x)

end Cert.Scale

namespace Cert.ReferenceIdeal.Value

open Idealize.ShloMosaic Idealize.ShloMosaic.TcCoe
open Cert.ReferenceIdeal.Facts₀ Cert.ReferenceIdeal.Facts

theorem cast_apply (q : FVec Ideal S5x56x1024x128 .bf16) (b : Fin 5) (h : Fin 28) (n : Fin 4) (s : Fin 2048) (k : Fin 32) :
    shapeCast S5x28x2048x4x32 q shapeCasts_S5x56x1024x128_S5x28x2048x4x32 (ix5 b h s n k)
     = q (ix4 b ⟨h.val * 2 + s.val / 1024, by omega⟩ ⟨s.val % 1024, by omega⟩ ⟨n.val * 32 + k.val, by omega⟩) := by
  pointwise

theorem max_apply (v : FVec Ideal S5x28x2048x4x32 .f32) (b : Fin 5) (h : Fin 28) (n : Fin 4) (s : Fin 2048) :
    (Host.reduce FloatOps.maximumf v (constant S_ .f32 0xFF800000#32) reducesTo_S5x28x2048x4x32_S5x28x2048x4_d4 h_S_) (ix4 b h s n)
     = Finset.univ.fold max (Ideal.ofBits .f32 0xFF800000#32) fun k : Fin 32 => v (ix5 b h s n k) := by
  pointwise

theorem min_apply (v : FVec Ideal S5x28x2048x4x254 .f32) (b : Fin 5) (h : Fin 28) (n : Fin 4) (s : Fin 2048) :
    (Host.reduce FloatOps.minimumf v (constant S_ .f32 0x7F800000#32) reducesTo_S5x28x2048x4x254_S5x28x2048x4_d4 h_S_) (ix4 b h s n)
     = Finset.univ.fold min (Ideal.ofBits .f32 0x7F800000#32) fun k : Fin 254 => v (ix5 b h s n k) := by
  pointwise

/-- The block maxima. -/
def maxima (q : FVec Ideal S5x56x1024x128 .bf16) : FVec Ideal S5x28x2048x4 .f32 :=
  (Host.reduce FloatOps.maximumf (extf .f32 (Host.absf (shapeCast _ q shapeCasts_S5x56x1024x128_S5x28x2048x4x32)) bitsLt_bf16_f32) (constant S_ .f32 0xFF800000#32) reducesTo_S5x28x2048x4x32_S5x28x2048x4_d4 h_S_)

theorem maxima_apply (q : FVec Ideal S5x56x1024x128 .bf16) (b : Fin 5) (h : Fin 28) (n : Fin 4) (s : Fin 2048) :
    maxima q (ix4 b h s n) = Cert.Scale.amax q b ⟨h.val * 2 + s.val / 1024, by omega⟩ ⟨s.val % 1024, by omega⟩ n := by
  unfold maxima Cert.Scale.amax
  rw [max_apply]
  refine congrArg (fun f => Finset.univ.fold max (Ideal.ofBits .f32 0xFF800000#32) f) (funext fun k => ?_)
  show FloatOps.absf (F := Ideal) (φ := .bf16) (shapeCast S5x28x2048x4x32 q shapeCasts_S5x56x1024x128_S5x28x2048x4x32 (ix5 b h s n k)) = _
  rw [cast_apply q b h n s k]
  rfl

/-- The powers of two. -/
def powers : FVec Ideal S254 .f32 := (fun i => FloatOps.ofBits .f32 (lit0 (S254.rowMajor i)))

theorem lit_eq : ∀ i : Fin 254, lit0 i = BitVec.ofNat 32 (i.val + 1) <<< 23 := by decide +kernel

theorem powers_apply (k : Fin 254) : powers (ix1 k) = Cert.Scale.pw (k.val + 1) := by
  have e : S254.rowMajor (ix1 k) = k := by
    apply Fin.ext; show Shape.rankPi ![254] (ix1 k) = k.val; exact Nat.mul_one _
  unfold powers
  rw [e, lit_eq]
  rfl

/-- The powers above `y`, infinity in place of the others. -/
def above (P : FVec Ideal S254 .f32) (y : FVec Ideal S5x28x2048x4 .f32) : FVec Ideal S5x28x2048x4x254 .f32 :=
  (select (cmpf .ogt (broadcastInDim S5x28x2048x4x254 ![0, 1, 2, 3, 4] bcast_S1x1x1x1x254_S5x28x2048x4x254_0_1_2_3_4 (broadcastInDim S1x1x1x1x254 ![4] bcast_S254_S1x1x1x1x254_4 P)) (broadcastInDim S5x28x2048x4x254 ![0, 1, 2, 3, 4] bcast_S5x28x2048x4x1_S5x28x2048x4x254_0_1_2_3_4 (broadcastInDim S5x28x2048x4x1 ![0, 1, 2, 3] bcast_S5x28x2048x4_S5x28x2048x4x1_0_1_2_3 y))) (broadcastInDim S5x28x2048x4x254 ![4] bcast_S254_S5x28x2048x4x254_4 P) (broadcastInDim S5x28x2048x4x254 ![] bcast_S_S5x28x2048x4x254 (id (constant S_ .f32 0x7F800000#32))))

theorem above_apply (P : FVec Ideal S254 .f32) (y : FVec Ideal S5x28x2048x4 .f32) (b : Fin 5) (h : Fin 28) (n : Fin 4) (s : Fin 2048) (k : Fin 254) :
    above P y (ix5 b h s n k) = if y (ix4 b h s n) < P (ix1 k) then P (ix1 k) else Ideal.ofBits .f32 0x7F800000#32 := by
  unfold above
  pointwise [id]

/-- The scales of block maxima `a`, before the transposition. -/
def scales (a : FVec Ideal S5x28x2048x4 .f32) (l : FVec Ideal S5x28x2048x4 .f32) : FVec Ideal S5x28x4x2048 .f32 :=
  transpose S5x28x4x2048 [0, 1, 3, 2] (select (cmpf .oeq a (broadcastInDim S5x28x2048x4 ![] bcast_S_S5x28x2048x4 (constant S_ .f32 0x00000000#32))) (broadcastInDim S5x28x2048x4 ![] bcast_S_S5x28x2048x4 (id (constant S_ .f32 0x3F800000#32))) l) transposes_S5x28x2048x4_S5x28x4x2048_0_1_3_2

theorem scales_apply (a l : FVec Ideal S5x28x2048x4 .f32) (b : Fin 5) (h : Fin 28) (n : Fin 4) (s : Fin 2048) :
    scales a l (ix4 b h n s) = if a (ix4 b h s n) = Ideal.ofBits .f32 0x00000000#32 then Ideal.ofBits .f32 0x3F800000#32 else l (ix4 b h s n) := by
  unfold scales
  pointwise [id]

/-- The block maxima over 448. -/
def over (a : FVec Ideal S5x28x2048x4 .f32) : FVec Ideal S5x28x2048x4 .f32 :=
  mulf a (broadcastInDim S5x28x2048x4 ![] bcast_S_S5x28x2048x4 (constant S_ .f32 0x3B124925#32))

theorem over_apply (a : FVec Ideal S5x28x2048x4 .f32) (i : S5x28x2048x4.Idx) : over a i = a i * Ideal.ofBits .f32 0x3B124925#32 := rfl

/-- The reference's scales as a function of the queries, before the transposition. -/
def refs (q : FVec Ideal S5x56x1024x128 .bf16) : FVec Ideal S5x28x2048x4 .f32 :=
  (select (cmpf .oeq (Host.reduce FloatOps.maximumf (extf .f32 (Host.absf (shapeCast _ q shapeCasts_S5x56x1024x128_S5x28x2048x4x32)) bitsLt_bf16_f32) (constant S_ .f32 0xFF800000#32) reducesTo_S5x28x2048x4x32_S5x28x2048x4_d4 h_S_) (broadcastInDim S5x28x2048x4 ![] bcast_S_S5x28x2048x4 (constant S_ .f32 0x00000000#32))) (broadcastInDim S5x28x2048x4 ![] bcast_S_S5x28x2048x4 (id (constant S_ .f32 0x3F800000#32))) (Host.reduce FloatOps.minimumf (select (cmpf .ogt (broadcastInDim S5x28x2048x4x254 ![0, 1, 2, 3, 4] bcast_S1x1x1x1x254_S5x28x2048x4x254_0_1_2_3_4 (broadcastInDim S1x1x1x1x254 ![4] bcast_S254_S1x1x1x1x254_4 ((fun i => FloatOps.ofBits .f32 (lit0 (S254.rowMajor i)))))) (broadcastInDim S5x28x2048x4x254 ![0, 1, 2, 3, 4] bcast_S5x28x2048x4x1_S5x28x2048x4x254_0_1_2_3_4 (broadcastInDim S5x28x2048x4x1 ![0, 1, 2, 3] bcast_S5x28x2048x4_S5x28x2048x4x1_0_1_2_3 (mulf (Host.reduce FloatOps.maximumf (extf .f32 (Host.absf (shapeCast _ q shapeCasts_S5x56x1024x128_S5x28x2048x4x32)) bitsLt_bf16_f32) (constant S_ .f32 0xFF800000#32) reducesTo_S5x28x2048x4x32_S5x28x2048x4_d4 h_S_) (broadcastInDim S5x28x2048x4 ![] bcast_S_S5x28x2048x4 (constant S_ .f32 0x3B124925#32)))))) (broadcastInDim S5x28x2048x4x254 ![4] bcast_S254_S5x28x2048x4x254_4 ((fun i => FloatOps.ofBits .f32 (lit0 (S254.rowMajor i))))) (broadcastInDim S5x28x2048x4x254 ![] bcast_S_S5x28x2048x4x254 (id (constant S_ .f32 0x7F800000#32)))) (constant S_ .f32 0x7F800000#32) reducesTo_S5x28x2048x4x254_S5x28x2048x4_d4 h_S_))

/-- The reference's second result as a function of the queries. -/
def refv (q : FVec Ideal S5x56x1024x128 .bf16) : FVec Ideal S5x28x4x2048 .f32 :=
  transpose S5x28x4x2048 [0, 1, 3, 2] (refs q) transposes_S5x28x2048x4_S5x28x4x2048_0_1_3_2

theorem refv_eq (q : FVec Ideal S5x56x1024x128 .bf16) : refv q = scales (maxima q)
    (Host.reduce FloatOps.minimumf (above powers (over (maxima q))) (constant S_ .f32 0x7F800000#32) reducesTo_S5x28x2048x4x254_S5x28x2048x4_d4 h_S_) := by
  rfl

theorem least_apply (a : FVec Ideal S5x28x2048x4 .f32) (b : Fin 5) (h : Fin 28) (n : Fin 4) (s : Fin 2048) :
    (Host.reduce FloatOps.minimumf (above powers (over a)) (constant S_ .f32 0x7F800000#32) reducesTo_S5x28x2048x4x254_S5x28x2048x4_d4 h_S_) (ix4 b h s n)
     = Cert.Scale.least (a (ix4 b h s n) * Ideal.ofBits .f32 0x3B124925#32) := by
  refine (min_apply _ b h n s).trans ?_
  unfold Cert.Scale.least
  refine congrArg (fun f : Fin 254 → EReal => Finset.univ.fold min (Ideal.ofBits .f32 0x7F800000#32) f) (funext fun k => ?_)
  refine (above_apply powers (over a) b h n s k).trans ?_
  rw [powers_apply, over_apply]

theorem ite_congr' {p : Prop} {i j : Decidable p} {x y z : EReal} (h : y = z) : @ite _ p i x y = @ite _ p j x z := by
  subst h; congr

theorem refv_refs (q : FVec Ideal S5x56x1024x128 .bf16) (b : Fin 5) (h : Fin 28) (n : Fin 4) (s : Fin 2048) :
    refv q (ix4 b h n s) = refs q (ix4 b h s n) := by
  unfold refv
  generalize refs q = z
  pointwise

/-- Each element of the reference's scales is the scale of its block's largest absolute value. -/
theorem refv_apply (q : FVec Ideal S5x56x1024x128 .bf16) (b : Fin 5) (h : Fin 28) (n : Fin 4) (s : Fin 2048) :
    refv q (ix4 b h n s) = Cert.Scale.rscale (Cert.Scale.amax q b ⟨h.val * 2 + s.val / 1024, by omega⟩ ⟨s.val % 1024, by omega⟩ n) := by
  rw [refv_eq, scales_apply, maxima_apply]
  refine ite_congr' ?_
  exact (least_apply (maxima q) b h n s).trans (congrArg (fun z : EReal => Cert.Scale.least (z * Ideal.ofBits .f32 0x3B124925#32)) (maxima_apply q b h n s))

/-- The queries over their scales `z`, clipped, before the last reshape. -/
def clipped (x : FVec Ideal S5x28x2048x4x32 .bf16) (z : FVec Ideal S5x28x2048x4 .f32) : FVec Ideal S5x28x2048x4x32 .f32 :=
  minimumf (broadcastInDim S5x28x2048x4x32 ![] bcast_S_S5x28x2048x4x32 (id (constant S_ .f32 0x43E00000#32)))
    (maximumf (broadcastInDim S5x28x2048x4x32 ![] bcast_S_S5x28x2048x4x32 (id (constant S_ .f32 0xC3E00000#32)))
      (mulf (extf .f32 x bitsLt_bf16_f32)
        (broadcastInDim S5x28x2048x4x32 ![0, 1, 2, 3, 4] bcast_S5x28x2048x4x1_S5x28x2048x4x32_0_1_2_3_4 (broadcastInDim S5x28x2048x4x1 ![0, 1, 2, 3] bcast_S5x28x2048x4_S5x28x2048x4x1_0_1_2_3
          (Host.divf (broadcastInDim S5x28x2048x4 ![] bcast_S_S5x28x2048x4 (constant S_ .f32 0x3F800000#32)) z)))))

/-- The reference's codes, before they are narrowed, as a function of the queries. -/
def refc (q : FVec Ideal S5x56x1024x128 .bf16) : FVec Ideal S5x56x1024x128 .bf16 :=
  truncf .bf16 (shapeCast S5x56x1024x128 (clipped (shapeCast S5x28x2048x4x32 q shapeCasts_S5x56x1024x128_S5x28x2048x4x32) (refs q)) shapeCasts_S5x28x2048x4x32_S5x56x1024x128) bitsLt_bf16_f32

theorem clipped_apply (x : FVec Ideal S5x28x2048x4x32 .bf16) (z : FVec Ideal S5x28x2048x4 .f32) (b : Fin 5) (h : Fin 28) (n : Fin 4) (s : Fin 2048) (k : Fin 32) :
    clipped x z (ix5 b h s n k) = Cert.Scale.clip (x (ix5 b h s n k) * Ideal.div (Ideal.ofBits .f32 0x3F800000#32) (z (ix4 b h s n))) := by
  unfold clipped Cert.Scale.clip
  pointwise [id]

theorem uncast_apply (y : FVec Ideal S5x28x2048x4x32 .f32) (b : Fin 5) (g : Fin 56) (r : Fin 1024) (d : Fin 128) :
    (truncf .bf16 (shapeCast S5x56x1024x128 y shapeCasts_S5x28x2048x4x32_S5x56x1024x128) bitsLt_bf16_f32) (ix4 b g r d)
     = y (ix5 b (⟨g.val / 2, by omega⟩ : Fin 28) (⟨g.val % 2 * 1024 + r.val, by omega⟩ : Fin 2048) (⟨d.val / 32, by omega⟩ : Fin 4) (⟨d.val % 32, by omega⟩ : Fin 32)) := by
  pointwise

/-- Each element of the reference's codes is the query over its block's scale, clipped. -/
theorem refc_apply (q : FVec Ideal S5x56x1024x128 .bf16) (b : Fin 5) (g : Fin 56) (r : Fin 1024) (d : Fin 128) :
    refc q (ix4 b g r d) = Cert.Scale.clip (q (ix4 b g r d) * Ideal.div (Ideal.ofBits .f32 0x3F800000#32) (Cert.Scale.rscale (Cert.Scale.amax q b g r ⟨d.val / 32, by omega⟩))) := by
  unfold refc
  refine (uncast_apply _ b g r d).trans ((clipped_apply _ _ _ _ _ _ _).trans ?_)
  have e1 : (⟨g.val / 2 * 2 + (g.val % 2 * 1024 + r.val) / 1024, by omega⟩ : Fin 56) = g :=
    Fin.ext (by show g.val / 2 * 2 + (g.val % 2 * 1024 + r.val) / 1024 = _; omega)
  have e2 : (⟨(g.val % 2 * 1024 + r.val) % 1024, by omega⟩ : Fin 1024) = r :=
    Fin.ext (by show (g.val % 2 * 1024 + r.val) % 1024 = _; omega)
  have e3 : (⟨d.val / 32 * 32 + d.val % 32, by omega⟩ : Fin 128) = d :=
    Fin.ext (by show d.val / 32 * 32 + d.val % 32 = _; omega)
  have h1 := cast_apply q b (⟨g.val / 2, by omega⟩ : Fin 28) (⟨d.val / 32, by omega⟩ : Fin 4) (⟨g.val % 2 * 1024 + r.val, by omega⟩ : Fin 2048) (⟨d.val % 32, by omega⟩ : Fin 32)
  have h2 := (refv_refs q b (⟨g.val / 2, by omega⟩ : Fin 28) (⟨d.val / 32, by omega⟩ : Fin 4) (⟨g.val % 2 * 1024 + r.val, by omega⟩ : Fin 2048)).symm.trans
    (refv_apply q b (⟨g.val / 2, by omega⟩ : Fin 28) (⟨d.val / 32, by omega⟩ : Fin 4) (⟨g.val % 2 * 1024 + r.val, by omega⟩ : Fin 2048))
  refine (congrArg₂ (fun u v : EReal => Cert.Scale.clip (u * Ideal.div (Ideal.ofBits .f32 0x3F800000#32) v)) h1 h2).trans ?_
  exact congrArg₂ (fun (u : Fin 56 × Fin 128) r' => Cert.Scale.clip (q (ix4 b u.1 r' u.2) * Ideal.div (Ideal.ofBits .f32 0x3F800000#32) (Cert.Scale.rscale (Cert.Scale.amax q b u.1 r' ⟨d.val / 32, by omega⟩)))) (congrArg₂ Prod.mk e1 e3) e2

end Cert.ReferenceIdeal.Value
end
-- ==== Proof.Value.RefAttn.lean ====
/- The reference's attention, element by element. -/
module

public import proofs.«01_k».proof.Proof.Value.RefElem
public import Idealize.ShloMosaic.Lib.Pipeline.ValueKit

@[expose] public section

set_option maxRecDepth 65536

noncomputable section

namespace Cert.ReferenceIdeal.Value

open Idealize.ShloMosaic Idealize.ShloMosaic.TcCoe
open Cert.ReferenceIdeal.Facts₀ Cert.ReferenceIdeal.Facts

/-- The codes times their scales, the query heads of a key head in one. -/
def deqs (c : FVec Ideal S5x28x2048x4x32 .f32) (z : FVec Ideal S5x28x2048x4 .f32) : FVec Ideal S5x4x14336x128 .bf16 :=
  shapeCast S5x4x14336x128 (mulf (truncf .bf16 c bitsLt_bf16_f32) (broadcastInDim S5x28x2048x4x32 ![0, 1, 2, 3, 4] bcast_S5x28x2048x4x1_S5x28x2048x4x32_0_1_2_3_4
    (broadcastInDim S5x28x2048x4x1 ![0, 1, 2, 3] bcast_S5x28x2048x4_S5x28x2048x4x1_0_1_2_3 (truncf .bf16 z bitsLt_bf16_f32)))) shapeCasts_S5x28x2048x4x32_S5x4x14336x128

theorem deqs_apply (c : FVec Ideal S5x28x2048x4x32 .f32) (z : FVec Ideal S5x28x2048x4 .f32) (b : Fin 5) (h : Fin 4) (q : Fin 14336) (d : Fin 128) :
    deqs c z (ix4 b h q d) = c (ix5 b (⟨h.val * 7 + q.val / 2048, by omega⟩ : Fin 28) (⟨q.val % 2048, by omega⟩ : Fin 2048) (⟨d.val / 32, by omega⟩ : Fin 4) (⟨d.val % 32, by omega⟩ : Fin 32))
      * z (ix4 b (⟨h.val * 7 + q.val / 2048, by omega⟩ : Fin 28) (⟨q.val % 2048, by omega⟩ : Fin 2048) (⟨d.val / 32, by omega⟩ : Fin 4)) := by
  unfold deqs
  pointwise

/-- The scores, -/
def scrs (a : FVec Ideal S5x4x14336x128 .bf16) (k : FVec Ideal S5x4x6144x128 .bf16) : FVec Ideal S5x4x14336x6144 .f32 :=
  Host.dotGeneral dot_S5x4x14336x128_S5x4x6144x128_S5x4x14336x6144_3_3_2_2_01_01 none a k

theorem scrs_apply (a : FVec Ideal S5x4x14336x128 .bf16) (k : FVec Ideal S5x4x6144x128 .bf16) (b : Fin 5) (h : Fin 4) (q : Fin 14336) (p : Fin 6144) :
    scrs a k (ix4 b h q p) = ∑ d : Fin 128, a (ix4 b h q d) * k (ix4 b h p d) := by
  unfold scrs
  pointwise

/-- scaled and masked, -/
def msks (l : IVec S5 32) (s : FVec Ideal S5x4x14336x6144 .f32) : FVec Ideal S5x4x14336x6144 .f32 :=
  select (broadcastInDim S5x4x14336x6144 ![0, 1, 2, 3] bcast_S5x1x1x6144_S5x4x14336x6144_0_1_2_3 (broadcastInDim S5x1x1x6144 ![0, 3] bcast_S5x6144_S5x1x1x6144_0_3
      (cmpi .slt (broadcastInDim S5x6144 ![0, 1] bcast_S1x6144_S5x6144_0_1 (broadcastInDim S1x6144 ![1] bcast_S6144_S1x6144_1 (iotaInDim S6144 32 0)))
        (broadcastInDim S5x6144 ![0, 1] bcast_S5x1_S5x6144_0_1 (broadcastInDim S5x1 ![0] bcast_S5_S5x1_0 l)))))
    (Host.divf s (broadcastInDim S5x4x14336x6144 ![] bcast_S_S5x4x14336x6144 (Host.sqrt (constant S_ .f32 0x43000000#32))))
    (broadcastInDim S5x4x14336x6144 ![] bcast_S_S5x4x14336x6144 (id (constant S_ .f32 0xFF800000#32)))

theorem msks_apply (l : IVec S5 32) (s : FVec Ideal S5x4x14336x6144 .f32) (b : Fin 5) (h : Fin 4) (q : Fin 14336) (p : Fin 6144) :
    msks l s (ix4 b h q p) = Scalar.select (IntOp.cmpi CmpIPredicate.slt (BitVec.ofNat 32 p.val) (l (ix1 b)))
      (Ideal.div (s (ix4 b h q p)) (Ideal.sqrt (Ideal.ofBits .f32 0x43000000#32))) (Ideal.ofBits .f32 0xFF800000#32) := by
  unfold msks
  pointwise [id]

/-- their largest of each query, -/
def tops (s : FVec Ideal S5x4x14336x6144 .f32) : FVec Ideal S5x4x14336 .f32 :=
  Host.reduce FloatOps.maximumf s (constant S_ .f32 0xFF800000#32) reducesTo_S5x4x14336x6144_S5x4x14336_d3 h_S_

theorem tops_apply (s : FVec Ideal S5x4x14336x6144 .f32) (b : Fin 5) (h : Fin 4) (q : Fin 14336) :
    tops s (ix3 b h q) = Finset.univ.fold max (Ideal.ofBits .f32 0xFF800000#32) fun p : Fin 6144 => s (ix4 b h q p) := by
  unfold tops
  pointwise

/-- the weights, -/
def wgts (s : FVec Ideal S5x4x14336x6144 .f32) (t : FVec Ideal S5x4x14336 .f32) : FVec Ideal S5x4x14336x6144 .f32 :=
  Host.exp (subf s (broadcastInDim S5x4x14336x6144 ![0, 1, 2, 3] bcast_S5x4x14336x1_S5x4x14336x6144_0_1_2_3 (broadcastInDim S5x4x14336x1 ![0, 1, 2] bcast_S5x4x14336_S5x4x14336x1_0_1_2 t)))

theorem wgts_apply (s : FVec Ideal S5x4x14336x6144 .f32) (t : FVec Ideal S5x4x14336 .f32) (b : Fin 5) (h : Fin 4) (q : Fin 14336) (p : Fin 6144) :
    wgts s t (ix4 b h q p) = Ideal.exp (s (ix4 b h q p) - t (ix3 b h q)) := by
  unfold wgts
  pointwise

/-- their sums, -/
def tots (w : FVec Ideal S5x4x14336x6144 .f32) : FVec Ideal S5x4x14336 .f32 :=
  Host.reduceAdd w (constant S_ .f32 0x00000000#32) reducesTo_S5x4x14336x6144_S5x4x14336_d3 h_S_

theorem tots_apply (w : FVec Ideal S5x4x14336x6144 .f32) (b : Fin 5) (h : Fin 4) (q : Fin 14336) :
    tots w (ix3 b h q) = ∑ p : Fin 6144, w (ix4 b h q p) := by
  unfold tots
  pointwise

/-- the weights' codes, -/
def cods (w : FVec Ideal S5x4x14336x6144 .f32) : FVec Ideal S5x4x14336x6144 .bf16 :=
  truncf .bf16 (minimumf (broadcastInDim S5x4x14336x6144 ![] bcast_S_S5x4x14336x6144 (id (constant S_ .f32 0x43E00000#32)))
    (maximumf (broadcastInDim S5x4x14336x6144 ![] bcast_S_S5x4x14336x6144 (id (constant S_ .f32 0x00000000#32)))
      (mulf w (broadcastInDim S5x4x14336x6144 ![] bcast_S_S5x4x14336x6144 (constant S_ .f32 0x43800000#32))))) bitsLt_bf16_f32

theorem cods_apply (w : FVec Ideal S5x4x14336x6144 .f32) (b : Fin 5) (h : Fin 4) (q : Fin 14336) (p : Fin 6144) :
    cods w (ix4 b h q p) = FloatOps.minimumf (F := Ideal) (φ := .f32) (Ideal.ofBits .f32 0x43E00000#32)
      (FloatOps.maximumf (F := Ideal) (φ := .f32) (Ideal.ofBits .f32 0x00000000#32) (w (ix4 b h q p) * Ideal.ofBits .f32 0x43800000#32)) := by
  unfold cods
  pointwise [id]

/-- and their products with the values. -/
def vals (w : FVec Ideal S5x4x14336x6144 .bf16) (v : FVec Ideal S5x4x128x6144 .bf16) : FVec Ideal S5x4x14336x128 .f32 :=
  Host.dotGeneral dot_S5x4x14336x6144_S5x4x128x6144_S5x4x14336x128_3_3_2_2_01_01 none w v

theorem vals_apply (w : FVec Ideal S5x4x14336x6144 .bf16) (v : FVec Ideal S5x4x128x6144 .bf16) (b : Fin 5) (h : Fin 4) (q : Fin 14336) (d : Fin 128) :
    vals w v (ix4 b h q d) = ∑ p : Fin 6144, w (ix4 b h q p) * v (ix4 b h d p) := by
  unfold vals
  pointwise

/-- The quotient, by query tiles. -/
def outs (o : FVec Ideal S5x4x14336x128 .f32) (t : FVec Ideal S5x4x14336 .f32) : FVec Ideal S5x56x1024x128 .bf16 :=
  truncf .bf16 (shapeCast S5x56x1024x128 (Host.divf (mulf o (broadcastInDim S5x4x14336x128 ![] bcast_S_S5x4x14336x128 (constant S_ .f32 0x3B800000#32)))
    (broadcastInDim S5x4x14336x128 ![0, 1, 2, 3] bcast_S5x4x14336x1_S5x4x14336x128_0_1_2_3 (broadcastInDim S5x4x14336x1 ![0, 1, 2] bcast_S5x4x14336_S5x4x14336x1_0_1_2 t))) shapeCasts_S5x4x14336x128_S5x56x1024x128) bitsLt_bf16_f32

theorem outs_apply (o : FVec Ideal S5x4x14336x128 .f32) (t : FVec Ideal S5x4x14336 .f32) (b : Fin 5) (g : Fin 56) (r : Fin 1024) (d : Fin 128) :
    outs o t (ix4 b g r d) = Ideal.div (o (ix4 b (⟨g.val / 14, by omega⟩ : Fin 4) (⟨g.val % 14 * 1024 + r.val, by omega⟩ : Fin 14336) d) * Ideal.ofBits .f32 0x3B800000#32)
      (t (ix3 b (⟨g.val / 14, by omega⟩ : Fin 4) (⟨g.val % 14 * 1024 + r.val, by omega⟩ : Fin 14336))) := by
  unfold outs
  pointwise

/-- The masked scores as a function of the arguments. -/
def refm (q : FVec Ideal S5x56x1024x128 .bf16) (k : FVec Ideal S5x4x6144x128 .bf16) (l : IVec S5 32) : FVec Ideal S5x4x14336x6144 .f32 :=
  msks l (scrs (deqs (clipped (shapeCast S5x28x2048x4x32 q shapeCasts_S5x56x1024x128_S5x28x2048x4x32) (refs q)) (refs q)) k)

/-- The reference's attention as a function of the arguments. -/
def refo (q : FVec Ideal S5x56x1024x128 .bf16) (k : FVec Ideal S5x4x6144x128 .bf16) (v : FVec Ideal S5x4x128x6144 .bf16) (l : IVec S5 32) : FVec Ideal S5x56x1024x128 .bf16 :=
  outs (vals (cods (wgts (refm q k l) (tops (refm q k l)))) v) (tots (wgts (refm q k l) (tops (refm q k l))))

end Cert.ReferenceIdeal.Value
end
-- ==== Proof.Value.KElem.lean ====
/- The block scale the kernel stores for a query tile, element by element. -/
module

public import proofs.«01_k».proof.Proof.Value.Scale
public import proofs.«01_k».proof.Proof.KernelIdeal.Run
public import Idealize.ShloMosaic.Lib.Pointwise

@[expose] public section

set_option maxRecDepth 65536

noncomputable section

namespace Cert.KernelIdeal.Gen

open Idealize.ShloMosaic Idealize.ShloMosaic.TcCoe

/-- One step of the search as the body prints it, at one element. -/
def pstep (y : Ideal .f32) (b w : BitVec 32) : BitVec 32 :=
  Scalar.select (FloatOps.cmpf (F := Ideal) .oge y (FloatOps.ofBits .f32 (IntOp.shli .vector (IntOp.addi w b) 23#32))) (IntOp.addi w b) w

theorem shl23 (w : BitVec 32) : IntOp.shli .vector w 23#32 = w <<< 23 := by
  unfold IntOp.shli; rw [if_pos (by decide)]; rfl

theorem pstep_eq (y : Ideal .f32) (b w : BitVec 32) : pstep y b w = Cert.Scale.step y b w := by
  unfold pstep; rw [shl23]; rfl

theorem pay12_apply (x : Vec Ideal S1x1x1024x128 .bf16) (j : S4x1024.Idx) :
    k0_pay12 (F := Ideal) x j = pstep (k0_pay11 x j) 64#32 (pstep (k0_pay11 x j) 128#32 0#32) := by
  unfold k0_pay12; generalize k0_pay11 x = y; rfl

/-- One step of the search as the body prints it, on vectors. -/
def vstep (y : FVec Ideal S4x1024 .f32) (b : BitVec 32) (w : IVec S4x1024 32) : IVec S4x1024 32 :=
  select (cmpf .oge y (bitcastToFloat .f32 (shli (addi w (broadcast S4x1024 b)) (broadcast S4x1024 23#32)))) (addi w (broadcast S4x1024 b)) w

theorem vstep_apply (y : FVec Ideal S4x1024 .f32) (b : BitVec 32) (w : IVec S4x1024 32) (j : S4x1024.Idx) :
    vstep y b w j = Cert.Scale.step (y j) b (w j) := by
  rw [← pstep_eq]; rfl

theorem pay14_eq (y : FVec Ideal S4x1024 .f32) (w : IVec S4x1024 32) :
    k0_pay14 (F := Ideal) y w (addi w (broadcast S4x1024 32#32)) 23#32 = vstep y 2#32 (vstep y 4#32 (vstep y 8#32 (vstep y 16#32 (vstep y 32#32 w)))) := by
  unfold k0_pay14 vstep; rfl

theorem pay17_eq (y : FVec Ideal S4x1024 .f32) (w : IVec S4x1024 32) :
    k0_pay17 (F := Ideal) y w (addi w (broadcast S4x1024 1#32)) 23#32 = bitcastToFloat .f32 (shli (addi (broadcast S4x1024 127#32) (select
      (ori (ori (cmpf .oeq y (broadcast S4x1024 (Scalar.ofBits .f32 0x00000000#32))) (cmpf .oeq y (broadcast S4x1024 (Scalar.ofBits .f32 0x7F800000#32))))
        (cmpf .one y y)) (broadcast S4x1024 0#32) (subi (vstep y 1#32 w) (broadcast S4x1024 126#32)))) (broadcast S4x1024 23#32)) := by
  unfold k0_pay17 k0_pay16 vstep; rfl

/-- The scale of an element is the scale of its block's maximum over 448. -/
theorem scale_apply (x : Vec Ideal S1x1x1024x128 .bf16) (j : S4x1024.Idx) :
    k0_pay17 (F := Ideal) (k0_pay11 x) (v79Of x) (v81Of x) 23#32 j = Cert.Scale.kscale (k0_pay11 x j) := by
  have e81 : v81Of x = addi (v79Of x) (broadcast S4x1024 1#32) := rfl
  have e13 : k0_pay13 x = addi (k0_pay12 x) (broadcast S4x1024 32#32) := rfl
  have e79 : v79Of x j = Cert.Scale.step (k0_pay11 x j) 2#32 (Cert.Scale.step (k0_pay11 x j) 4#32 (Cert.Scale.step (k0_pay11 x j) 8#32
      (Cert.Scale.step (k0_pay11 x j) 16#32 (Cert.Scale.step (k0_pay11 x j) 32#32 (Cert.Scale.step (k0_pay11 x j) 64#32 (Cert.Scale.step (k0_pay11 x j) 128#32 0#32)))))) := by
    unfold v79Of
    rw [e13, pay14_eq]
    simp only [vstep_apply, pay12_apply, pstep_eq]
  rw [e81, pay17_eq]
  have e : vstep (k0_pay11 x) 1#32 (v79Of x) j = Cert.Scale.search (k0_pay11 x j) := by
    rw [vstep_apply, e79]; rfl
  unfold Cert.Scale.kscale
  rw [← e]
  generalize vstep (k0_pay11 x) 1#32 (v79Of x) = w
  generalize k0_pay11 x = y
  unfold Cert.Scale.pwW
  rw [← shl23]
  rfl

/-- The inverse scales as the body prints them. -/
def invs (y : FVec Ideal S4x1024 .f32) (w : IVec S4x1024 32) : FVec Ideal S4x1024 .f32 :=
  bitcastToFloat .f32 (shli (subi (broadcast S4x1024 127#32) (k0_pay16 (F := Ideal) y w (addi w (broadcast S4x1024 1#32)) 23#32)) (broadcast S4x1024 23#32))

theorem invs_eq (y : FVec Ideal S4x1024 .f32) (w : IVec S4x1024 32) :
    invs y w = bitcastToFloat .f32 (shli (subi (broadcast S4x1024 127#32) (select
      (ori (ori (cmpf .oeq y (broadcast S4x1024 (Scalar.ofBits .f32 0x00000000#32))) (cmpf .oeq y (broadcast S4x1024 (Scalar.ofBits .f32 0x7F800000#32))))
        (cmpf .one y y)) (broadcast S4x1024 0#32) (subi (vstep y 1#32 w) (broadcast S4x1024 126#32)))) (broadcast S4x1024 23#32)) := by
  unfold invs k0_pay16 vstep; rfl

/-- The inverse scale of an element is the inverse the kernel makes of its block's maximum over 448. -/
theorem invs_apply (x : Vec Ideal S1x1x1024x128 .bf16) (j : S4x1024.Idx) :
    invs (k0_pay11 x) (v79Of x) j = Cert.Scale.kinv (k0_pay11 x j) := by
  have e13 : k0_pay13 x = addi (k0_pay12 x) (broadcast S4x1024 32#32) := rfl
  have e79 : v79Of x j = Cert.Scale.step (k0_pay11 x j) 2#32 (Cert.Scale.step (k0_pay11 x j) 4#32 (Cert.Scale.step (k0_pay11 x j) 8#32
      (Cert.Scale.step (k0_pay11 x j) 16#32 (Cert.Scale.step (k0_pay11 x j) 32#32 (Cert.Scale.step (k0_pay11 x j) 64#32 (Cert.Scale.step (k0_pay11 x j) 128#32 0#32)))))) := by
    unfold v79Of
    rw [e13, pay14_eq]
    simp only [vstep_apply, pay12_apply, pstep_eq]
  rw [invs_eq]
  have e : vstep (k0_pay11 x) 1#32 (v79Of x) j = Cert.Scale.search (k0_pay11 x j) := by
    rw [vstep_apply, e79]; rfl
  unfold Cert.Scale.kinv
  rw [← e]
  generalize vstep (k0_pay11 x) 1#32 (v79Of x) = w
  generalize k0_pay11 x = y
  unfold Cert.Scale.pwW
  rw [← shl23]
  rfl

end Cert.KernelIdeal.Gen
end
-- ==== Proof.Value.RScale.lean ====
/- The scale the reference makes of a block's largest absolute value is the one the kernel makes of it. -/
module

public import proofs.«01_k».proof.Proof.Value.RefElem

@[expose] public section

noncomputable section

namespace Cert.Scale

open Idealize.ShloMosaic

theorem c_bits : Ideal.ofBits .f32 0x3B124925#32 = ((9586981 / 4294967296 : ℝ) : EReal) := by
  simp [Ideal.ofBits, Ideal.ieee]
  norm_num [zpow_neg]
  rw [← EReal.coe_mul]
  norm_num

theorem one_bits : Ideal.ofBits .f32 0x3F800000#32 = pw 127 := rfl

theorem max_bits : Ideal.ofBits .f32 0x7F7F0000#32 = ((255 * 2 ^ 120 : ℝ) : EReal) := by
  simp [Ideal.ofBits, Ideal.ieee]
  norm_num
  rw [← EReal.coe_pow, ← EReal.coe_pow, ← EReal.coe_mul, ← EReal.coe_mul]
  norm_num

theorem rscale_eq {a : EReal} (h0 : 0 ≤ a) (h1 : a ≤ Ideal.ofBits .f32 0x7F7F0000#32) :
    rscale a = kscale (a * Ideal.ofBits .f32 0x3B124925#32) := by
  unfold rscale
  rw [zero_bits, one_bits, c_bits]
  rw [max_bits] at h1
  lift a to ℝ using ⟨ne_top_of_le_ne_top (EReal.coe_ne_top _) h1, ne_bot_of_le_ne_bot EReal.zero_ne_bot h0⟩
  rw [EReal.coe_nonneg] at h0
  rw [EReal.coe_le_coe_iff] at h1
  by_cases hz : a = 0
  · subst hz
    rw [if_pos (by simp), EReal.coe_zero, zero_mul, kscale_zero]
  · have hp : 0 < a := lt_of_le_of_ne h0 (Ne.symm hz)
    rw [if_neg (by rw [EReal.coe_eq_zero]; exact hz), ← EReal.coe_mul]
    have hy0 : (0 : EReal) < ((a * (9586981 / 4294967296) : ℝ) : EReal) := by rw [EReal.coe_pos]; positivity
    have hy1 : ((a * (9586981 / 4294967296) : ℝ) : EReal) < pw 254 := by
      rw [pw_eq 254 (by norm_num) le_rfl, EReal.coe_lt_coe_iff]
      norm_num
      norm_num at h1
      linarith
    generalize ((a * (9586981 / 4294967296) : ℝ) : EReal) = y at hy0 hy1
    obtain ⟨n, hn1, hn2, hk, hlt, hle⟩ := kscale_spec hy0 hy1
    rw [hk]
    unfold least
    rw [inf_bits]
    apply le_antisymm
    · rw [Finset.fold_min_le]
      right
      refine ⟨⟨n - 1, by omega⟩, Finset.mem_univ _, ?_⟩
      have e : n - 1 + 1 = n := by omega
      show (if y < pw (n - 1 + 1) then pw (n - 1 + 1) else ⊤) ≤ _
      rw [e, if_pos hlt]
    · rw [Finset.le_fold_min]
      refine ⟨le_top, fun k _ => ?_⟩
      by_cases hc : y < pw (k.val + 1)
      · rw [if_pos hc]
        have : n ≤ k.val + 1 := by
          by_contra hh
          exact absurd hc (not_lt.mpr (hle (k.val + 1) (by omega) (by omega)))
        exact pw_mono hn1 this (by omega)
      · rw [if_neg hc]; exact le_top

/-- One over the reference's scale is the inverse the kernel makes. -/
theorem rscale_inv {a : EReal} (h0 : 0 ≤ a) (h1 : a ≤ Ideal.ofBits .f32 0x7F7F0000#32) :
    Ideal.div (Ideal.ofBits .f32 0x3F800000#32) (rscale a) = kinv (a * Ideal.ofBits .f32 0x3B124925#32) := by
  rw [rscale_eq h0 h1, one_bits]
  refine (kinv_eq ?_ ?_).symm
  · rw [c_bits]
    exact mul_nonneg h0 (by rw [EReal.coe_nonneg]; norm_num)
  · rw [c_bits]
    rw [max_bits] at h1
    lift a to ℝ using ⟨ne_top_of_le_ne_top (EReal.coe_ne_top _) h1, ne_bot_of_le_ne_bot EReal.zero_ne_bot h0⟩
    rw [EReal.coe_le_coe_iff] at h1
    rw [← EReal.coe_mul, pw_eq 253 (by norm_num) (by norm_num), EReal.coe_lt_coe_iff]
    norm_num
    norm_num at h1
    linarith

theorem bot_bits : Ideal.ofBits .f32 0xFF800000#32 = ⊥ := by
  simp [Ideal.ofBits, Ideal.ieee]

theorem amax_nonneg (q : (⟨4, ![5, 56, 1024, 128]⟩ : Shape).Idx → EReal) (b : Fin 5) (g : Fin 56) (r : Fin 1024) (n : Fin 4) : 0 ≤ amax q b g r n := by
  unfold amax
  rw [Finset.le_fold_max]
  right
  refine ⟨0, Finset.mem_univ _, ?_⟩
  generalize q _ = x
  show (0 : EReal) ≤ max x (-x)
  rcases le_total 0 x with h | h
  · exact h.trans (le_max_left _ _)
  · refine le_trans ?_ (le_max_right _ _)
    rw [← neg_zero]; exact EReal.neg_le_neg_iff.mpr h

theorem amax_le (q : (⟨4, ![5, 56, 1024, 128]⟩ : Shape).Idx → EReal) (b : Fin 5) (g : Fin 56) (r : Fin 1024) (n : Fin 4) {M : EReal}
    (h : ∀ k : Fin 128, FloatOps.absf (F := Ideal) (φ := .f32) (q (ix4 b g r k)) ≤ M) : amax q b g r n ≤ M := by
  unfold amax
  rw [Finset.fold_max_le, bot_bits]
  exact ⟨bot_le, fun k _ => h _⟩

end Cert.Scale
end
-- ==== Proof.Value.Block.lean ====
/- The third result after the run: at every place the scale that the reference states. -/
module

public import proofs.«01_k».proof.Proof.Value.KElem
public import proofs.«01_k».proof.Proof.Value.RScale
public import proofs.«01_k».proof.Proof.KernelIdeal.Frame
public import Idealize.ShloMosaic.Lib.Pipeline.ValueKit
public import Idealize.ShloMosaic.Lib.Pipeline.Covers

@[expose] public section

set_option maxRecDepth 65536

noncomputable section

namespace Cert.KernelIdeal.Gen

open Idealize.ShloMosaic Idealize.ShloMosaic.TcCoe
open Idealize.SL Idealize.SL.Sem
open Idealize.ShloMosaic.Pipeline (Dat)

theorem tr5 : ∀ i : grid0.Coords, cc0_transform_5 i = ![(i 0).val, (i 1).val / 2, 0, (i 1).val % 2] := by decide +kernel

theorem tr0 : ∀ i : grid0.Coords, cc0_transform_0 i = ![(i 0).val, (i 1).val, 0, 0] := by decide +kernel

/-- The largest absolute value of feature block `n` of row `r` of a query tile, over 448. -/
theorem pay11_apply (x : Vec Ideal S1x1x1024x128 .bf16) (n : Fin 4) (r : Fin 1024) : k0_pay11 (F := Ideal) x (ix2 n r)
    = (Finset.univ.fold max (Ideal.ofBits .f32 0xFF800000#32) fun k : Fin 32 => FloatOps.absf (F := Ideal) (φ := .f32) (x (ix4 0 0 r ⟨n.val * 32 + k.val, by omega⟩)))
      * Ideal.ofBits .f32 0x3B124925#32 := by
  pointwise [k0_pay11, k0_pay10]
  rfl

theorem pay22_apply (y : FVec Ideal S4x1024 .f32) (n : Fin 4) (r : Fin 1024) : k0_pay22 (F := Ideal) y (ix4 0 0 n r) = y (ix2 n r) := by
  pointwise [k0_pay22]

theorem pay21_apply (y : FVec Ideal S1024x128 .fp8e4m3) (r : Fin 1024) (d : Fin 128) : k0_pay21 (F := Ideal) y (ix4 0 0 r d) = y (ix2 r d) := by
  pointwise [k0_pay21]

theorem pay20_apply (v : FVec Ideal S4x32x1024 .bf16) (y : FVec Ideal S4x1024 .f32) (w u : IVec S4x1024 32) (c : BitVec 32) (r : Fin 1024) (d : Fin 128) :
    k0_pay20 (F := Ideal) v y w u c (ix2 r d) = k0_pay18 (F := Ideal) v y w u c (ix3 (⟨d.val / 32, by omega⟩ : Fin 4) (⟨d.val % 32, by omega⟩ : Fin 32) r) := by
  unfold k0_pay20
  generalize k0_pay18 (F := Ideal) v y w u c = z
  pointwise

theorem pay18_apply (v : FVec Ideal S4x32x1024 .bf16) (y : FVec Ideal S4x1024 .f32) (w : IVec S4x1024 32) (n : Fin 4) (k : Fin 32) (r : Fin 1024) :
    k0_pay18 (F := Ideal) v y w (addi w (broadcast S4x1024 1#32)) 23#32 (ix3 n k r) = Cert.Scale.clip (v (ix3 n k r) * invs y w (ix2 n r)) := by
  unfold k0_pay18 invs Cert.Scale.clip
  generalize k0_pay16 (F := Ideal) y w (addi w (broadcast S4x1024 1#32)) 23#32 = e
  pointwise

theorem pay10_apply (x : Vec Ideal S1x1x1024x128 .bf16) (d : Fin 128) (r : Fin 1024) :
    k0_pay10 (F := Ideal) x (ix3 (⟨d.val / 32, by omega⟩ : Fin 4) (⟨d.val % 32, by omega⟩ : Fin 32) r) = x (ix4 0 0 r d) := by
  have e3 : (⟨d.val / 32 * 32 + d.val % 32, by omega⟩ : Fin 128) = d :=
    Fin.ext (by show d.val / 32 * 32 + d.val % 32 = _; omega)
  have h : ∀ (n : Fin 4) (k : Fin 32), k0_pay10 (F := Ideal) x (ix3 n k r) = x (ix4 0 0 r ⟨n.val * 32 + k.val, by omega⟩) := by
    intro n k
    pointwise [k0_pay10]
  exact (h _ _).trans (congrArg (fun z => x (ix4 0 0 r z)) e3)

variable (m : (ℓ : Loc nD τ sig) → Buf (Elt Ideal) ℓ) (ρ : Dev nD → PrngReg)

theorem idx5 (hO : Ok m) (t : Fin (cfgM m hO).N) : ((cfgM m hO).win 5).index t = ![(grid0.coords t 0).val, (grid0.coords t 1).val / 2, 0, (grid0.coords t 1).val % 2] :=
  tr5 (grid0.coords t)

theorem tr4 : ∀ i : grid0.Coords, cc0_transform_4 i = ![(i 0).val, (i 1).val, 0, 0] := by decide +kernel

theorem idx4 (hO : Ok m) (t : Fin (cfgM m hO).N) : ((cfgM m hO).win 4).index t = ![(grid0.coords t 0).val, (grid0.coords t 1).val, 0, 0] :=
  tr4 (grid0.coords t)

theorem covers4 (hO : Ok m) : ((cfgM m hO).win 4).Covers :=
  ((cfgM m hO).win 4).covers_of_index_surj rfl (show ∀ a : Fin 4, 0 < S1x1x1024x128.size a by decide) fun β => by
    have h0 : (β (0 : Fin 4)).val < 5 := lt_of_lt_of_eq (β (0 : Fin 4)).isLt (show ((cfgM m hO).win 4).nblk (0 : Fin 4) = 5 by with_unfolding_all rfl)
    have h1 : (β (1 : Fin 4)).val < 56 := lt_of_lt_of_eq (β (1 : Fin 4)).isLt (show ((cfgM m hO).win 4).nblk (1 : Fin 4) = 56 by with_unfolding_all rfl)
    have h2 : (β (2 : Fin 4)).val < 1 := lt_of_lt_of_eq (β (2 : Fin 4)).isLt (show ((cfgM m hO).win 4).nblk (2 : Fin 4) = 1 by with_unfolding_all rfl)
    have h3 : (β (3 : Fin 4)).val < 1 := lt_of_lt_of_eq (β (3 : Fin 4)).isLt (show ((cfgM m hO).win 4).nblk (3 : Fin 4) = 1 by with_unfolding_all rfl)
    let i : grid0.Coords := fun a => match a with
      | ⟨0, _⟩ => ⟨(β (0 : Fin 4)).val, h0⟩
      | ⟨1, _⟩ => ⟨(β (1 : Fin 4)).val, h1⟩
    obtain ⟨t, ht⟩ := grid0.coords_surjective i
    refine ⟨t, fun a => ?_⟩
    rw [idx4 m hO t, ht]
    match a with
    | ⟨0, _⟩ => rfl
    | ⟨1, _⟩ => rfl
    | ⟨2, _⟩ => show 0 = (β (2 : Fin 4)).val; omega
    | ⟨3, _⟩ => show 0 = (β (3 : Fin 4)).val; omega

theorem idx0 (hO : Ok m) (t : Fin (cfgM m hO).N) : ((cfgM m hO).win 0).index t = ![(grid0.coords t 0).val, (grid0.coords t 1).val, 0, 0] :=
  tr0 (grid0.coords t)

theorem covers5 (hO : Ok m) : ((cfgM m hO).win 5).Covers :=
  ((cfgM m hO).win 5).covers_of_index_surj rfl (show ∀ a : Fin 4, 0 < S1x1x4x1024.size a by decide) fun β => by
    have h0 : (β (0 : Fin 4)).val < 5 := lt_of_lt_of_eq (β (0 : Fin 4)).isLt (show ((cfgM m hO).win 5).nblk (0 : Fin 4) = 5 by with_unfolding_all rfl)
    have h1 : (β (1 : Fin 4)).val < 28 := lt_of_lt_of_eq (β (1 : Fin 4)).isLt (show ((cfgM m hO).win 5).nblk (1 : Fin 4) = 28 by with_unfolding_all rfl)
    have h2 : (β (2 : Fin 4)).val < 1 := lt_of_lt_of_eq (β (2 : Fin 4)).isLt (show ((cfgM m hO).win 5).nblk (2 : Fin 4) = 1 by with_unfolding_all rfl)
    have h3 : (β (3 : Fin 4)).val < 2 := lt_of_lt_of_eq (β (3 : Fin 4)).isLt (show ((cfgM m hO).win 5).nblk (3 : Fin 4) = 2 by with_unfolding_all rfl)
    let i : grid0.Coords := fun a => match a with
      | ⟨0, _⟩ => ⟨(β (0 : Fin 4)).val, h0⟩
      | ⟨1, _⟩ => ⟨(β (1 : Fin 4)).val * 2 + (β (3 : Fin 4)).val, by show _ < 56; omega⟩
    obtain ⟨t, ht⟩ := grid0.coords_surjective i
    refine ⟨t, fun a => ?_⟩
    rw [idx5 m hO t, ht]
    match a with
    | ⟨0, _⟩ => rfl
    | ⟨1, _⟩ => show ((β (1 : Fin 4)).val * 2 + (β (3 : Fin 4)).val) / 2 = (β (1 : Fin 4)).val; omega
    | ⟨2, _⟩ => show 0 = (β (2 : Fin 4)).val; omega
    | ⟨3, _⟩ => show ((β (1 : Fin 4)).val * 2 + (β (3 : Fin 4)).val) % 2 = (β (3 : Fin 4)).val; omega

/-- A query tile's element is the queries' element at its place. -/
theorem iblk0_apply (hO : Ok m) (c : Dev nD) (t : Fin (cfgM m hO).N) (r : Fin 1024) (k : Fin 128) :
    iblk m hO c 0 t (ix4 (0 : Fin 1) (0 : Fin 1) r k) = m ((c.tc : Thread nD τ).loc main_arg0) (ix4 (grid0.coords t 0) (grid0.coords t 1) r k) := by
  blk_ext [iblk, V, idx0 m hO t]

end Cert.KernelIdeal.Gen
end
-- ==== Proof.Value.Softmax.lean ====
/- The one equation between the two softmaxes: weights from powers of two scaled by 256, summed over the chunks up to the length,
   against weights from the exponential over all keys. -/
module

public import Idealize.ShloMosaic.PureOps.Ideal
public import Idealize.ShloMosaic.Lib.IdealHost

@[expose] public section

set_option maxRecDepth 16384

noncomputable section

namespace Cert.Attn

open Idealize.ShloMosaic

/-- One over the root of 128, and that over the logarithm of two. -/
def rs : ℝ := (Real.sqrt 128)⁻¹
def cs : ℝ := (Real.sqrt 128)⁻¹ * (Real.log 2)⁻¹

theorem rs_pos : 0 < rs := inv_pos.mpr (Real.sqrt_pos.mpr (by norm_num))

theorem weight (x μ : ℝ) : Real.rpow 2 (x * cs - (μ * cs - 8)) = 256 * Real.exp (x * rs - μ * rs) := by
  have h2 : Real.log 2 ≠ 0 := (Real.log_pos (by norm_num)).ne'
  show (2 : ℝ) ^ (x * cs - (μ * cs - 8)) = _
  rw [show x * cs - (μ * cs - 8) = (x * cs - μ * cs) + 8 by ring, Real.rpow_add (by norm_num), show ((2 : ℝ) ^ (8 : ℝ)) = 256 by norm_num, mul_comm]
  congr 1
  rw [Real.rpow_def_of_pos (by norm_num)]
  congr 1
  unfold cs rs
  field_simp

/-- The weight of key `p` below the length, against the largest score `μ`. -/
def ew (x : ℕ → ℝ) (len : ℕ) (μ : ℝ) (p : ℕ) : ℝ := if p < len then Real.exp (x p * rs - μ * rs) else 0

theorem ew_nonneg (x : ℕ → ℝ) (len : ℕ) (μ : ℝ) (p : ℕ) : 0 ≤ ew x len μ p := by
  unfold ew; split_ifs
  · exact (Real.exp_pos _).le
  · exact le_rfl

theorem coe_sum (f : ℕ → ℝ) (s : Finset ℕ) : ((∑ p ∈ s, f p : ℝ) : EReal) = ∑ p ∈ s, (f p : EReal) := by
  classical
  induction s using Finset.induction_on with
  | empty => simp
  | insert a s ha ih => rw [Finset.sum_insert ha, Finset.sum_insert ha, EReal.coe_add, ih]

theorem kernel_weight (x : ℕ → ℝ) (len : ℕ) (μ : ℝ) (p : ℕ) :
    Ideal.exp2 ((if p < len then (x p : EReal) else ⊥) * (cs : EReal) - ((μ : EReal) * (cs : EReal) - ((8 : ℝ) : EReal))) = ((256 * ew x len μ p : ℝ) : EReal) := by
  have hc : 0 < cs := mul_pos rs_pos (inv_pos.mpr (Real.log_pos (by norm_num)))
  unfold ew
  split_ifs
  · rw [← EReal.coe_mul, ← EReal.coe_mul, ← EReal.coe_sub, ← EReal.coe_sub, Ideal.exp2_coe, weight]
  · rw [EReal.bot_mul_coe_of_pos hc, ← EReal.coe_mul, ← EReal.coe_sub, EReal.bot_sub, Ideal.exp2_bot]
    simp

theorem ref_weight (x : ℕ → ℝ) (len : ℕ) (μ : ℝ) (p : ℕ) :
    Ideal.exp ((if p < len then ((x p * rs : ℝ) : EReal) else ⊥) - ((μ * rs : ℝ) : EReal)) = ((ew x len μ p : ℝ) : EReal) := by
  unfold ew
  split_ifs
  · rw [← EReal.coe_sub]; rfl
  · rw [EReal.bot_sub, EReal.coe_zero]; rfl

/-- The largest score is the score of some key. -/
theorem top_key (x : ℕ → ℝ) (len : ℕ) (h : 1 ≤ len) : ∃ p, p < len ∧ ∀ q < len, x q ≤ x p := by
  obtain ⟨p, hp, hm⟩ := Finset.exists_max_image (Finset.range len) x ⟨0, Finset.mem_range.mpr h⟩
  exact ⟨p, Finset.mem_range.mp hp, fun q hq => hm q (Finset.mem_range.mpr hq)⟩

theorem core (x : ℕ → ℝ) (len n : ℕ) (V : ℕ → EReal) (g : EReal → EReal) (hg : g 0 = 0) (h1 : 1 ≤ len) (hn : len ≤ 256 * n) (hn2 : 256 * n ≤ 6144)
    (Mk M : EReal) (hk : ∀ u, Mk ≤ u ↔ ∀ p < 256 * n, (if p < len then (x p : EReal) else ⊥) ≤ u)
    (hM : ∀ u, M ≤ u ↔ ∀ p < 6144, (if p < len then ((x p * rs : ℝ) : EReal) else ⊥) ≤ u) :
    (∑ p ∈ Finset.range (256 * n), V p * g (Ideal.exp2 ((if p < len then (x p : EReal) else ⊥) * (cs : EReal) - (Mk * (cs : EReal) - ((8 : ℝ) : EReal)))))
      * Ideal.div 1 (∑ p ∈ Finset.range (256 * n), Ideal.exp2 ((if p < len then (x p : EReal) else ⊥) * (cs : EReal) - (Mk * (cs : EReal) - ((8 : ℝ) : EReal))))
    = Ideal.div ((∑ p ∈ Finset.range 6144, g (Ideal.exp ((if p < len then ((x p * rs : ℝ) : EReal) else ⊥) - M) * ((256 : ℝ) : EReal)) * V p) * (((1 / 256 : ℝ)) : EReal))
      (∑ p ∈ Finset.range 6144, Ideal.exp ((if p < len then ((x p * rs : ℝ) : EReal) else ⊥) - M)) := by
  obtain ⟨p0, hp0, hmax⟩ := top_key x len h1
  have ek : Mk = (x p0 : EReal) := by
    refine le_antisymm ((hk _).mpr fun p _ => ?_) ?_
    · split_ifs with hp
      · exact EReal.coe_le_coe_iff.mpr (hmax p hp)
      · exact bot_le
    · have := (hk Mk).mp le_rfl p0 (by omega)
      rwa [if_pos hp0] at this
  have eM : M = ((x p0 * rs : ℝ) : EReal) := by
    refine le_antisymm ((hM _).mpr fun p _ => ?_) ?_
    · split_ifs with hp
      · exact EReal.coe_le_coe_iff.mpr (mul_le_mul_of_nonneg_right (hmax p hp) rs_pos.le)
      · exact bot_le
    · have := (hM M).mp le_rfl p0 (by omega)
      rwa [if_pos hp0] at this
  subst ek eM
  simp only [kernel_weight, ref_weight]
  have hsub : Finset.range (256 * n) ⊆ Finset.range 6144 := Finset.range_subset_range.mpr hn2
  have hz : ∀ p, p ∉ Finset.range (256 * n) → ew x len (x p0) p = 0 := fun p hp => by
    unfold ew; rw [if_neg]; have := mt Finset.mem_range.mpr hp; omega
  rw [Finset.sum_subset hsub fun p _ hp => by rw [hz p hp]; simp [hg], Finset.sum_subset hsub fun p _ hp => by rw [hz p hp]; simp]
  rw [← coe_sum _ (Finset.range 6144), ← coe_sum _ (Finset.range 6144), ← Finset.mul_sum]
  have hL : 0 < ∑ p ∈ Finset.range 6144, ew x len (x p0) p := by
    refine Finset.sum_pos' (fun p _ => ew_nonneg _ _ _ _) ⟨p0, Finset.mem_range.mpr (by omega), ?_⟩
    unfold ew; rw [if_pos hp0]; exact Real.exp_pos _
  generalize (∑ p ∈ Finset.range 6144, ew x len (x p0) p) = L at hL
  have e : (∑ p ∈ Finset.range 6144, V p * g ((256 * ew x len (x p0) p : ℝ) : EReal)) = ∑ p ∈ Finset.range 6144, g (((ew x len (x p0) p : ℝ) : EReal) * ((256 : ℝ) : EReal)) * V p :=
    Finset.sum_congr rfl fun p _ => by rw [mul_comm, ← EReal.coe_mul, mul_comm (256 : ℝ)]
  rw [e]
  generalize (∑ p ∈ Finset.range 6144, g (((ew x len (x p0) p : ℝ) : EReal) * ((256 : ℝ) : EReal)) * V p) = O
  unfold Ideal.div
  rw [if_neg (by exact_mod_cast (mul_pos (by norm_num : (0 : ℝ) < 256) hL).ne'), if_neg (by exact_mod_cast hL.ne'), one_mul, mul_assoc, ← EReal.coe_inv, ← EReal.coe_inv, ← EReal.coe_mul]
  congr 2
  field_simp

/-- A sum over whole chunks. -/
theorem sum_chunks (f : ℕ → EReal) (n : ℕ) : ∑ p ∈ Finset.range (256 * n), f p = ∑ k ∈ Finset.range n, ∑ i ∈ Finset.range 256, f (256 * k + i) := by
  induction n with
  | zero => simp
  | succ n ih => rw [Finset.sum_range_succ, ← ih, Nat.mul_succ, Finset.sum_range_add]

/-- A chunk's sum by rows of eight. -/
theorem sum_rows (f : ℕ → EReal) : ∑ i ∈ Finset.range 256, f i = ∑ j : Fin 8, ∑ i : Fin 32, f (8 * i.val + j.val) := by
  have h : ∀ n, ∑ i ∈ Finset.range (8 * n), f i = ∑ k ∈ Finset.range n, ∑ j ∈ Finset.range 8, f (8 * k + j) := fun n => by
    induction n with
    | zero => simp
    | succ n ih => rw [Finset.sum_range_succ, ← ih, Nat.mul_succ, Finset.sum_range_add]
  have h32 := h 32
  rw [show 8 * 32 = 256 by norm_num] at h32
  rw [h32, Finset.sum_comm, Finset.sum_range]
  exact Finset.sum_congr rfl fun j _ => Finset.sum_range _

end Cert.Attn
end
-- ==== Proof.Value.AttnElem.lean ====
/- The attention body's operations at an index, over the extended reals. -/
module

public import proofs.«01_k».proof.Proof.Value.KElem
public import proofs.«01_k».proof.Proof.Value.Block
public import proofs.«01_k».proof.Proof.Value.Softmax
public import Idealize.ShloMosaic.Lib.Pipeline.ValueKit

@[expose] public section

set_option maxRecDepth 16384

noncomputable section

namespace Cert.KernelIdeal.Gen

open Idealize.ShloMosaic Idealize.ShloMosaic.TcCoe

theorem pay1_apply (v : FVec Ideal S1x1024 .f32) (s : Vec Ideal S256x1024 .f32) (k : Fin 256) (r : Fin 1024) :
    k0_pay1 (F := Ideal) v s (ix2 k r) = Ideal.exp2 (s (ix2 k r) * Named.named (F := Ideal) (φ := .f32) κ "exp2_scale" 0x3E0293EE#32 - v (ix2 (0 : Fin 1) r)) := by
  unfold k0_pay1
  pointwise
  rfl

theorem ninf_bits : Ideal.ofBits .f32 0xFF800000#32 = ⊥ := by
  simp [Ideal.ofBits, Ideal.ieee]

theorem pay24_apply (j : Fin 8) (r : Fin 1024) : k0_pay24 (F := Ideal) (ix2 j r) = ⊥ := by
  unfold k0_pay24
  pointwise
  exact ninf_bits

theorem pay25_apply (x : Vec Ideal S1x1x256x128 .bf16) (a : Vec Ideal S256x128 .bf16) (q : Vec Ideal S256x1024 .bf16) (k : Fin 256) (r : Fin 1024) :
    k0_pay25 (F := Ideal) x a q (ix2 k r) = ∑ e : Fin 256, (if h : e.val < 128 then x (ix4 (0 : Fin 1) (0 : Fin 1) k ⟨e.val, h⟩) else a (ix2 k ⟨e.val - 128, by omega⟩)) * q (ix2 e r) := by
  unfold k0_pay25
  pointwise

theorem pay26_apply (x : Vec Ideal S1x1x256x128 .bf16) (a : Vec Ideal S256x128 .bf16) (q : Vec Ideal S256x1024 .bf16) (k : Fin 256) (r : Fin 1024) :
    k0_pay26 (F := Ideal) x a q (ix2 k r) = k0_pay25 (F := Ideal) x a q (ix2 k r) := by
  unfold k0_pay26
  generalize k0_pay25 (F := Ideal) x a q = z
  pointwise

theorem pay27_apply (m : FVec Ideal S8x1024 .f32) (x : Vec Ideal S1x1x256x128 .bf16) (a : Vec Ideal S256x128 .bf16) (q : Vec Ideal S256x1024 .bf16) (j : Fin 8) (r : Fin 1024) :
    k0_pay27 (F := Ideal) m x a q (ix2 j r) = max (m (ix2 j r)) (Finset.univ.fold max (Ideal.ofBits .f32 0xFF800000#32) fun i : Fin 32 => k0_pay25 (F := Ideal) x a q (ix2 (⟨i.val * 8 + j.val, by omega⟩ : Fin 256) r)) := by
  unfold k0_pay27
  generalize k0_pay25 (F := Ideal) x a q = z
  pointwise

theorem pay31_apply (m : FVec Ideal S8x1024 .f32) (r : Fin 1024) :
    k0_pay31 (F := Ideal) m (ix2 (0 : Fin 1) r) = (Finset.univ.fold max (Ideal.ofBits .f32 0xFF800000#32) fun j : Fin 8 => m (ix2 j r)) * Named.named (F := Ideal) (φ := .f32) κ "exp2_scale" 0x3E0293EE#32 - Ideal.ofBits .f32 0x41000000#32 := by
  unfold k0_pay31
  pointwise

theorem pay2_apply (v : FVec Ideal S1x1024 .f32) (l : FVec Ideal S8x1024 .f32) (s : Vec Ideal S256x1024 .f32) (j : Fin 8) (r : Fin 1024) :
    k0_pay2 (F := Ideal) v l s (ix2 j r) = l (ix2 j r) + ∑ i : Fin 32, k0_pay1 (F := Ideal) v s (ix2 (⟨i.val * 8 + j.val, by omega⟩ : Fin 256) r) := by
  unfold k0_pay2
  generalize k0_pay1 (F := Ideal) v s = z
  pointwise

/-- A weight kept between zero and the largest an eight-bit float holds. -/
def clipP (x : EReal) : EReal := FloatOps.minimumf (F := Ideal) (φ := .f32) (Ideal.ofBits .f32 0x43E00000#32) (FloatOps.maximumf (F := Ideal) (φ := .f32) (Ideal.ofBits .f32 0x00000000#32) x)

theorem pay3_apply (v : FVec Ideal S1x1024 .f32) (s : Vec Ideal S256x1024 .f32) (o : Vec Ideal S128x1024 .f32) (y : Vec Ideal S1x1x128x256 .bf16) (d : Fin 128) (r : Fin 1024) :
    k0_pay3 (F := Ideal) v s o y (ix2 d r) = o (ix2 d r) + ∑ k : Fin 256, y (ix4 (0 : Fin 1) (0 : Fin 1) d k) * clipP (k0_pay1 (F := Ideal) v s (ix2 k r)) := by
  unfold k0_pay3 clipP
  generalize k0_pay1 (F := Ideal) v s = z
  pointwise

theorem pay7_apply (l : FVec Ideal S8x1024 .f32) (o : Vec Ideal S128x1024 .f32) (r : Fin 1024) (d : Fin 128) :
    k0_pay7 (F := Ideal) l o (ix4 (0 : Fin 1) (0 : Fin 1) r d) = o (ix2 d r) * Ideal.div 1 (∑ j : Fin 8, l (ix2 j r)) := by
  unfold k0_pay7
  pointwise

theorem pay32_apply (d : Fin 128) (r : Fin 1024) : k0_pay32 (F := Ideal) (ix2 d r) = 0 := by
  unfold k0_pay32
  pointwise

theorem pay33_apply (j : Fin 8) (r : Fin 1024) : k0_pay33 (F := Ideal) (ix2 j r) = 0 := by
  unfold k0_pay33
  pointwise

theorem pay9_apply (d : Fin 128) (r : Fin 1024) : k0_pay9 (F := Ideal) (ix2 d r) = if d.val = 0 then 1 else 0 := by
  unfold k0_pay9
  pointwise
  have e : (IntOp.cmpi CmpIPredicate.eq (BitVec.ofNat 32 d.val) 0#32) = BitVec.ofBool (decide (d.val = 0)) := by
    revert d; decide +kernel
  rw [e]
  by_cases h : d.val = 0
  · rw [if_pos h]; simp [h, Scalar.select]
  · rw [if_neg h]; simp [h, Scalar.select]

theorem mask_eq : Named.named (F := Ideal) (φ := .f32) κ "mask" 0xFF000000#32 = (⊥ : EReal) := by
  first | rfl | exact IdealRules.named_const.ideal_named_scalar _ _ _ _ rfl

theorem scale_eq : Named.named (F := Ideal) (φ := .f32) κ "exp2_scale" 0x3E0293EE#32 = ((Cert.Attn.cs : ℝ) : EReal) := by
  first | rfl | exact IdealRules.named_const.ideal_named_scalar _ _ _ _ rfl

theorem pay19_apply (v : FVec Ideal S4x32x1024 .bf16) (y : FVec Ideal S4x1024 .f32) (w u : IVec S4x1024 32) (c : BitVec 32) (d : Fin 128) (r : Fin 1024) :
    k0_pay19 (F := Ideal) v y w u c (ix2 d r) = k0_pay18 (F := Ideal) v y w u c (ix3 (⟨d.val / 32, by omega⟩ : Fin 4) (⟨d.val % 32, by omega⟩ : Fin 32) r)
      * k0_pay17 (F := Ideal) y w u c (ix2 (⟨d.val / 32, by omega⟩ : Fin 4) r) := by
  unfold k0_pay19
  generalize k0_pay18 (F := Ideal) v y w u c = z
  generalize k0_pay17 (F := Ideal) y w u c = z'
  pointwise

theorem pay23_apply (v : FVec Ideal S128x1024 .bf16) (d : Fin 128) (r : Fin 1024) : k0_pay23 (F := Ideal) v (ix2 d r) = v (ix2 d r) := by
  unfold k0_pay23
  pointwise

theorem pay8_apply (w : BitVec 32) (k : Fin 6144) (d : Fin 128) :
    k0_pay8 (F := Ideal) w (ix2 k d) = if w.toInt ≤ (k.val : ℤ) ∧ d.val = 0 then ⊥ else 0 := by
  unfold k0_pay8
  pointwise
  rw [mask_eq]
  have e : (IntOp.cmpi CmpIPredicate.eq (BitVec.ofNat 32 d.val) 0#32) = BitVec.ofBool (decide (d.val = 0)) := by
    revert d; decide +kernel
  have ek : (BitVec.ofNat 32 k.val).toInt = (k.val : ℤ) := by
    have hk := k.isLt
    have hn : (BitVec.ofNat 32 k.val).toNat = k.val := by rw [BitVec.toNat_ofNat]; omega
    rw [BitVec.toInt_eq_toNat_of_lt (by omega), hn]
  have e' : IntOp.cmpi CmpIPredicate.sge (BitVec.ofNat 32 k.val) w = BitVec.ofBool (decide (w.toInt ≤ (k.val : ℤ))) := by
    show BitVec.ofBool (w.sle (BitVec.ofNat 32 k.val)) = _
    rw [BitVec.sle, ek]
  rw [e, e']
  by_cases h : d.val = 0 <;> by_cases h' : w.toInt ≤ (k.val : ℤ) <;> simp [h, h', Scalar.select, IntOp.andi]

end Cert.KernelIdeal.Gen
end
-- ==== Proof.KernelIdeal.LoopVal.lean ====
/- The score loop and the value loop, with what they compute: the scores a chunk of keys at a time and the running maximum,
   then the weights' sums and the products with the values. -/
module

public import proofs.«01_k».proof.Proof.KernelIdeal.Chk
public import Idealize.ShloMosaic.Lib.ValueIdxCore
public import Idealize.ShloMosaic.Lib.WritesUnit
public import proofs.«01_k».proof.Proof.Gen.KernelIdeal.Loops
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- The keys of chunk `k`. -/
def keysC (x : Vec F S1x1x6144x128 .bf16) (k : ℕ) : Vec F S1x1x256x128 .bf16 := fun y =>
  x (ix4 (0 : Fin 1) (0 : Fin 1) (⟨(256 * k + (y 2).val) % 6144, Nat.mod_lt _ (by decide)⟩ : Fin 6144) (y 3))
/-- The mask's rows of chunk `k`. -/
def maskC (x : Vec F S6144x128 .bf16) (k : ℕ) : Vec F S256x128 .bf16 := fun y =>
  x (ix2 (⟨(256 * k + (y 0).val) % 6144, Nat.mod_lt _ (by decide)⟩ : Fin 6144) (y 1))
/-- The scores of chunk `k`, out of the score buffer. -/
def rowsC (x : Vec F S6144x1024 .f32) (k : ℕ) : Vec F S256x1024 .f32 := fun y =>
  x (ix2 (⟨(256 * k + (y 0).val) % 6144, Nat.mod_lt _ (by decide)⟩ : Fin 6144) (y 1))
/-- The values of chunk `k`. -/
def valsC (x : Vec F S1x1x128x6144 .bf16) (k : ℕ) : Vec F S1x1x128x256 .bf16 := fun y =>
  x (ix4 (0 : Fin 1) (0 : Fin 1) (y 2) (⟨(256 * k + (y 3).val) % 6144, Nat.mod_lt _ (by decide)⟩ : Fin 6144))

/-- The running maxima after `k` chunks. -/
def maxes (x : Vec F S1x1x6144x128 .bf16) (a : Vec F S6144x128 .bf16) (q : Vec F S256x1024 .bf16) : ℕ → FVec F S8x1024 .f32
  | 0 => k0_pay24 (F := F)
  | k + 1 => k0_pay27 (maxes x a q k) (keysC x k) (maskC a k) q
/-- The first `n` chunks of the score buffer are the products. -/
def Filled (x : Vec F S1x1x6144x128 .bf16) (a : Vec F S6144x128 .bf16) (q : Vec F S256x1024 .bf16) (n : ℕ) (s : Vec F S6144x1024 .f32) : Prop :=
  ∀ k < n, rowsC s k = k0_pay26 (keysC x k) (maskC a k) q
/-- The sums of the weights after `k` chunks. -/
def sums (s : Vec F S6144x1024 .f32) (v152 : FVec F S1x1024 .f32) : ℕ → FVec F S8x1024 .f32
  | 0 => k0_pay33 (F := F)
  | k + 1 => k0_pay2 v152 (sums s v152 k) (rowsC s k)
/-- The accumulated products with the values after `k` chunks. -/
def prods (s : Vec F S6144x1024 .f32) (x : Vec F S1x1x128x6144 .bf16) (v152 : FVec F S1x1024 .f32) : ℕ → Vec F S128x1024 .f32
  | 0 => k0_pay32 (F := F)
  | k + 1 => k0_pay3 v152 (rowsC s k) (prods s x v152 k) (valsC x k)

theorem trips1_le (w : BitVec 32) (h : w.toInt ≤ 6144) : (k0_t1_loop w).trips ≤ 24 := by
  show Scf.trips 0#32 (k0_t1_loop w).ub 1#32 ≤ 24
  rw [show (k0_t1_loop w).ub = Scalar.divsi (Scalar.addi w 255#32) 256#32 from bound_eq _]; exact trips_le _ (chunks_le w h)
theorem trips3_le (w : BitVec 32) (h : w.toInt ≤ 6144) : (k0_t3_loop w).trips ≤ 24 := by
  show Scf.trips 0#32 (k0_t3_loop w).ub 1#32 ≤ 24
  rw [show (k0_t3_loop w).ub = Scalar.divsi (Scalar.addi w 255#32) 256#32 from bound_eq _]; exact trips_le _ (chunks_le w h)

theorem off2_eq (w : BitVec 32) (h : w.toInt ≤ 6144) (k : Fin (k0_t1_loop w).trips) : k0_off2 w k = ![0, 0, 256 * k.val, 0] :=
  congrArg (fun n => (![0, 0, n, 0] : Fin 4 → ℕ)) (row_lt (trips1_le w h) k).1
theorem off3_eq (w : BitVec 32) (h : w.toInt ≤ 6144) (k : Fin (k0_t1_loop w).trips) : k0_off3 w k = ![256 * k.val, 0] :=
  congrArg (fun n => (![n, 0] : Fin 2 → ℕ)) (row_lt (trips1_le w h) k).1
theorem off4_eq (w : BitVec 32) (h : w.toInt ≤ 6144) (k : Fin (k0_t1_loop w).trips) : k0_off4 w k = ![256 * k.val, 0] :=
  congrArg (fun n => (![n, 0] : Fin 2 → ℕ)) (row_lt (trips1_le w h) k).1
theorem off8_eq (w : BitVec 32) (h : w.toInt ≤ 6144) (k : Fin (k0_t3_loop w).trips) : k0_off8 w k = ![256 * k.val, 0] :=
  congrArg (fun n => (![n, 0] : Fin 2 → ℕ)) (row_lt (trips3_le w h) k).1
theorem off9_eq (w : BitVec 32) (h : w.toInt ≤ 6144) (k : Fin (k0_t3_loop w).trips) : k0_off9 w k = ![0, 0, 0, 256 * k.val] :=
  congrArg (fun n => (![0, 0, 0, n] : Fin 4 → ℕ)) (row_lt (trips3_le w h) k).1

theorem keys_read {sp : Space} {κ : Kind} (v : View sig κ sp S1x1x6144x128 .bf16) (X : v.ty.Contents (Elt F)) (k : ℕ) (hk : k < 24) (off : Fin 4 → ℕ) (ho : off = ![0, 0, 256 * k, 0])
    (inb : ∀ a, off a + S1x1x256x128.size a ≤ S1x1x6144x128.size a) :
    v.readAt (Elt F) (Rect.unit (s := S1x1x6144x128) off S1x1x256x128.size inb).toLoadRect X = keysC (v.read (Elt F) X) k := by
  subst ho
  funext y
  refine congrArg (v.read (Elt F) X) (funext fun a => Fin.ext ?_)
  have h2 : (y 2).val < 256 := (y 2).isLt
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 256 * k + 1 * (y 2).val = (256 * k + (y 2).val) % 6144; omega
  | ⟨3, _⟩ => show 0 + 1 * (y 3).val = (y 3).val; omega
theorem mask_read {sp : Space} {κ : Kind} (v : View sig κ sp S6144x128 .bf16) (X : v.ty.Contents (Elt F)) (k : ℕ) (hk : k < 24) (off : Fin 2 → ℕ) (ho : off = ![256 * k, 0])
    (inb : ∀ a, off a + S256x128.size a ≤ S6144x128.size a) :
    v.readAt (Elt F) (Rect.unit (s := S6144x128) off S256x128.size inb).toLoadRect X = maskC (v.read (Elt F) X) k := by
  subst ho
  funext y
  refine congrArg (v.read (Elt F) X) (funext fun a => Fin.ext ?_)
  have h0 : (y 0).val < 256 := (y 0).isLt
  match a with
  | ⟨0, _⟩ => show 256 * k + 1 * (y 0).val = (256 * k + (y 0).val) % 6144; omega
  | ⟨1, _⟩ => show 0 + 1 * (y 1).val = (y 1).val; omega
theorem rows_read {sp : Space} {κ : Kind} (v : View sig κ sp S6144x1024 .f32) (X : v.ty.Contents (Elt F)) (k : ℕ) (hk : k < 24) (off : Fin 2 → ℕ) (ho : off = ![256 * k, 0])
    (inb : ∀ a, off a + S256x1024.size a ≤ S6144x1024.size a) :
    v.readAt (Elt F) (Rect.unit (s := S6144x1024) off S256x1024.size inb).toLoadRect X = rowsC (v.read (Elt F) X) k := by
  subst ho
  funext y
  refine congrArg (v.read (Elt F) X) (funext fun a => Fin.ext ?_)
  have h0 : (y 0).val < 256 := (y 0).isLt
  match a with
  | ⟨0, _⟩ => show 256 * k + 1 * (y 0).val = (256 * k + (y 0).val) % 6144; omega
  | ⟨1, _⟩ => show 0 + 1 * (y 1).val = (y 1).val; omega
theorem vals_read {sp : Space} {κ : Kind} (v : View sig κ sp S1x1x128x6144 .bf16) (X : v.ty.Contents (Elt F)) (k : ℕ) (hk : k < 24) (off : Fin 4 → ℕ) (ho : off = ![0, 0, 0, 256 * k])
    (inb : ∀ a, off a + S1x1x128x256.size a ≤ S1x1x128x6144.size a) :
    v.readAt (Elt F) (Rect.unit (s := S1x1x128x6144) off S1x1x128x256.size inb).toLoadRect X = valsC (v.read (Elt F) X) k := by
  subst ho
  funext y
  refine congrArg (v.read (Elt F) X) (funext fun a => Fin.ext ?_)
  have h3 : (y 3).val < 256 := (y 3).isLt
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 256 * k + 1 * (y 3).val = (256 * k + (y 3).val) % 6144; omega

/-- Storing chunk `n` keeps the chunks before it. -/
theorem filled_succ {sp : Space} {κ : Kind} (v : View sig κ sp S6144x1024 .f32) (f : v.ty.Contents (Elt F)) (x : Vec F S1x1x6144x128 .bf16) (a : Vec F S6144x128 .bf16) (q : Vec F S256x1024 .bf16)
    (n : ℕ) (hn : n < 24) (h : Filled x a q n (v.read (Elt F) f)) (off : Fin 2 → ℕ) (ho : off = ![256 * n, 0])
    (inb : ∀ a, off a + S256x1024.size a ≤ S6144x1024.size a) :
    Filled x a q (n + 1) (v.read (Elt F) (v.writes (Elt F) f [⟨Rect.unit (s := S6144x1024) off S256x1024.size inb, k0_pay26 (keysC x n) (maskC a n) q⟩])) := by
  intro k hk
  funext y
  have h0 : (y 0).val < 256 := (y 0).isLt
  rcases Nat.lt_succ_iff_lt_or_eq.mp hk with hlt | rfl
  · refine Eq.trans ?_ (congrFun (h k hlt) y)
    exact View.read_writes_cons_unit_of_not_mem v f inb _ [] _ ho (0 : Fin 2) (Or.inl (by
      show (256 * k + (y 0).val) % 6144 < 256 * n
      omega))
  · exact View.read_writes_cons_unit_of_mem v f inb _ [] _ y ho fun b => by
      match b with
      | ⟨0, _⟩ => show (256 * k + (y 0).val) % 6144 = 256 * k + (y 0).val; omega
      | ⟨1, _⟩ => show (y 1).val = 0 + (y 1).val; omega

/-- One trip of the score loop: from the keys, the mask's rows and the query side as they are, it puts the trip's chunk of
    scores over the rows of the score buffer and yields the running maximum of the chunk. -/
theorem trip1 (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v3 : BitVec 32) (v104 : FVec F S4x1024 .f32) (v126 : FVec F S128x1024 .bf16) (v129 : FVec F S1024x128 .fp8e4m3) (X4 : BufTy.Contents (Elt F) arg4.view.ty) (X9 : BufTy.Contents (Elt F) arg9.view.ty) (X11 : BufTy.Contents (Elt F) arg11.view.ty) (f : BufTy.Contents (Elt F) arg10.view.ty)
    (k : Fin (k0_t1_loop v1).trips) (acc : FVec F S8x1024 .f32) (E : Set ℕ) :
    (iprop((arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f)) : sProp 𝕄)
      ⊢ wp Idealize.ShloMosaic.frame (wpE (defs₀ (F := F)) Variants.none (c : Thread nD τ) none) E (k0_t1_body (F := F) i tbM0_0 htbM0_0 arg3 harg3 arg4 harg4 arg5 harg5 arg6 harg6 arg7 harg7 arg8 harg8 arg9 harg9 arg10 harg10 arg11 harg11 arg12 harg12 v1 k0_hw1 v3 v104 v126 v129 k acc)
        (fun y => (iprop(⌜y = k0_pay27 acc (arg4.view.readAt (Elt F) (Rect.unit (s := S1x1x6144x128) (k0_off2 v1 k) S1x1x256x128.size (k0_off2_inb v1 k0_hw1 k)).toLoadRect X4) (arg11.view.readAt (Elt F) (Rect.unit (s := S6144x128) (k0_off3 v1 k) S256x128.size (k0_off3_inb v1 k0_hw1 k)).toLoadRect X11) (arg9.view.readAt (Elt F) (Rect.unit (s := S256x1024) ![0, 0] S256x1024.size inb_S256x1024_S256x1024_0_0).toLoadRect X9)⌝ ∗ (arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11)
          ∗ (arg10.view.loc (c : Thread nD τ) ↦[arg10.view.set]{fullShare} (arg10.view.writes (Elt F) f [⟨Rect.unit (s := S6144x1024) (k0_off4 v1 k) S256x1024.size (k0_off4_inb v1 k0_hw1 k), k0_pay26 (arg4.view.readAt (Elt F) (Rect.unit (s := S1x1x6144x128) (k0_off2 v1 k) S1x1x256x128.size (k0_off2_inb v1 k0_hw1 k)).toLoadRect X4) (arg11.view.readAt (Elt F) (Rect.unit (s := S6144x128) (k0_off3 v1 k) S256x128.size (k0_off3_inb v1 k0_hw1 k)).toLoadRect X11) (arg9.view.readAt (Elt F) (Rect.unit (s := S256x1024) ![0, 0] S256x1024.size inb_S256x1024_S256x1024_0_0).toLoadRect X9)⟩]))) : sProp 𝕄)) := by
  unfold k0_t1_body
  iintro ⟨H1, HS0, HS2, HS1⟩
  sl_exec
  sl_step
  isplitr; · ipureintro; rfl
  isplitl [H1]; · iexact H1
  isplitl [HS0]; · iexact HS0
  isplitl [HS2]; · iexact HS2
  iexact HS1

/-- One trip of the value loop: from the values and the scores as they are, it adds the product of the trip's chunk to the
    accumulator and the chunk's weights to the sums. -/
theorem trip3 (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (X10 : BufTy.Contents (Elt F) arg10.view.ty) (f : BufTy.Contents (Elt F) arg12.view.ty)
    (k : Fin (k0_t3_loop v1).trips) (acc : FVec F S8x1024 .f32) (E : Set ℕ) :
    (iprop((arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f)) : sProp 𝕄)
      ⊢ wp Idealize.ShloMosaic.frame (wpE (defs₀ (F := F)) Variants.none (c : Thread nD τ) none) E (k0_t3_body (F := F) i tbM0_0 htbM0_0 arg3 harg3 arg4 harg4 arg5 harg5 arg6 harg6 arg7 harg7 arg8 harg8 arg9 harg9 arg10 harg10 arg11 harg11 arg12 harg12 v1 k0_hw1 v152 k acc)
        (fun y => (iprop(⌜y = k0_pay2 v152 acc (arg10.view.readAt (Elt F) (Rect.unit (s := S6144x1024) (k0_off8 v1 k) S256x1024.size (k0_off8_inb v1 k0_hw1 k)).toLoadRect X10)⌝ ∗ (arg5.view.loc (c : Thread nD τ) ↦[arg5.view.set]{fullShare} X5) ∗ (arg10.view.loc (c : Thread nD τ) ↦[arg10.view.set]{fullShare} X10)
          ∗ (arg12.view.loc (c : Thread nD τ) ↦[arg12.view.set]{fullShare} (arg12.view.writes (Elt F) f [⟨Rect.unit (s := S128x1024) ![0, 0] S128x1024.size inb_S128x1024_S128x1024_0_0, k0_pay3 v152 (arg10.view.readAt (Elt F) (Rect.unit (s := S6144x1024) (k0_off8 v1 k) S256x1024.size (k0_off8_inb v1 k0_hw1 k)).toLoadRect X10) (arg12.view.readAt (Elt F) (Rect.unit (s := S128x1024) ![0, 0] S128x1024.size inb_S128x1024_S128x1024_0_0).toLoadRect f) (arg5.view.readAt (Elt F) (Rect.unit (s := S1x1x128x6144) (k0_off9 v1 k) S1x1x128x256.size (k0_off9_inb v1 k0_hw1 k)).toLoadRect X5)⟩]))) : sProp 𝕄)) := by
  unfold k0_t3_body
  iintro ⟨H2, HS1, HS3⟩
  sl_exec
  sl_step
  isplitr; · ipureintro; rfl
  isplitl [H2]; · iexact H2
  isplitl [HS1]; · iexact HS1
  iexact HS3

/-- The score loop: from the keys, the mask's rows and the query side, with the score buffer at anything, it leaves the chunks'
    scores in the score buffer and yields the running maxima. -/
theorem loop1 (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v3 : BitVec 32) (v104 : FVec F S4x1024 .f32) (v126 : FVec F S128x1024 .bf16) (v129 : FVec F S1024x128 .fp8e4m3) (X4 : BufTy.Contents (Elt F) arg4.view.ty) (X9 : BufTy.Contents (Elt F) arg9.view.ty) (X11 : BufTy.Contents (Elt F) arg11.view.ty) (h1 : v1.toInt ≤ 6144) (f : BufTy.Contents (Elt F) arg10.view.ty) (E : Set ℕ)
    {β : Type} (kk : FVec F S8x1024 .f32 → Prog (TpuEff nD τ sig (Elt F) Λ₀ .tc) β) (Q : β → sProp 𝕄) :
    (iprop((arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f)) : sProp 𝕄)
      ⊢ iprop((∀ acc, (iprop(∃ f, ⌜acc = maxes (arg4.view.read (Elt F) X4) (arg11.view.read (Elt F) X11) (arg9.view.read (Elt F) X9) (k0_t1_loop v1).trips ∧ Filled (arg4.view.read (Elt F) X4) (arg11.view.read (Elt F) X11) (arg9.view.read (Elt F) X9) (k0_t1_loop v1).trips (arg10.view.read (Elt F) f)⌝ ∗ (arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f)) : sProp 𝕄) -∗ wp Idealize.ShloMosaic.frame (wpE (defs₀ (F := F)) Variants.none (c : Thread nD τ) none) E (kk acc) Q)
        -∗ wp Idealize.ShloMosaic.frame (wpE (defs₀ (F := F)) Variants.none (c : Thread nD τ) none) E (Scf.Loop.for (k0_t1_loop v1) (k0_t1_ok v1 k0_hw1) (k0_pay24 (F := F)) (k0_t1_body (F := F) i tbM0_0 htbM0_0 arg3 harg3 arg4 harg4 arg5 harg5 arg6 harg6 arg7 harg7 arg8 harg8 arg9 harg9 arg10 harg10 arg11 harg11 arg12 harg12 v1 k0_hw1 v3 v104 v126 v129) >>= kk) Q) := by
  refine (show _ ⊢ (iprop(∃ f, ⌜(k0_pay24 (F := F)) = maxes (arg4.view.read (Elt F) X4) (arg11.view.read (Elt F) X11) (arg9.view.read (Elt F) X9) 0 ∧ Filled (arg4.view.read (Elt F) X4) (arg11.view.read (Elt F) X11) (arg9.view.read (Elt F) X9) 0 (arg10.view.read (Elt F) f)⌝ ∗ (arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f)) : sProp 𝕄) from ?_).trans (Scf.wp_for_bind Idealize.ShloMosaic.frame (wpE (defs₀ (F := F)) Variants.none (c : Thread nD τ) none) E
    (k0_t1_loop v1).lb (k0_t1_loop v1).ub (k0_t1_loop v1).st (k0_t1_ok v1 k0_hw1) (k0_pay24 (F := F)) _
    (fun k acc => (iprop(∃ f, ⌜acc = maxes (arg4.view.read (Elt F) X4) (arg11.view.read (Elt F) X11) (arg9.view.read (Elt F) X9) k ∧ Filled (arg4.view.read (Elt F) X4) (arg11.view.read (Elt F) X11) (arg9.view.read (Elt F) X9) k (arg10.view.read (Elt F) f)⌝ ∗ (arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f)) : sProp 𝕄)) (fun k acc => ?_))
  · iintro ⟨H1, HS0, HS2, HS1⟩
    iexists f
    isplitr; · ipureintro; exact ⟨rfl, fun k hk => absurd hk (Nat.not_lt_zero k)⟩
    isplitl [H1]; · iexact H1
    isplitl [HS0]; · iexact HS0
    isplitl [HS2]; · iexact HS2
    iexact HS1
  · iintro ⟨%g, %hg, H1, HS0, HS2, HS1⟩
    obtain ⟨ha, hf⟩ := hg
    have hk : k.val < 24 := lt_of_lt_of_le k.isLt (trips1_le v1 h1)
    iapply (wp_wand_r Idealize.ShloMosaic.frame (wpE (defs₀ (F := F)) Variants.none (c : Thread nD τ) none) E)
    isplitl [H1 HS0 HS2 HS1]
    · iapply (trip1 c i arg3 harg3 arg4 harg4 arg5 harg5 arg6 harg6 arg7 harg7 arg8 harg8 arg9 harg9 arg10 harg10 arg11 harg11 arg12 harg12 v1 k0_hw1 v3 v104 v126 v129 X4 X9 X11 g k acc E)
      isplitl [H1]; · iexact H1
      isplitl [HS0]; · iexact HS0
      isplitl [HS2]; · iexact HS2
      iexact HS1
    · iintro %y ⟨%hy, H1, HS0, HS2, HS1⟩
      iexists _
      isplitr; swap
      · isplitl [H1]; · iexact H1
        isplitl [HS0]; · iexact HS0
        isplitl [HS2]; · iexact HS2
        iexact HS1
      ipureintro
      rw [keys_read arg4.view X4 k.val hk _ (off2_eq v1 h1 k), mask_read arg11.view X11 k.val hk _ (off3_eq v1 h1 k), View.readAt_full] at hy
      rw [keys_read arg4.view X4 k.val hk _ (off2_eq v1 h1 k), mask_read arg11.view X11 k.val hk _ (off3_eq v1 h1 k), View.readAt_full]
      refine ⟨?_, filled_succ arg10.view g _ _ _ k.val hk hf _ (off4_eq v1 h1 k) _⟩
      rw [hy, ha]; rfl

/-- The value loop: from the values and the scores, with the accumulator at zero, it leaves the accumulated products and yields
    the sums of the weights. -/
theorem loop3 (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (X10 : BufTy.Contents (Elt F) arg10.view.ty) (h1 : v1.toInt ≤ 6144) (f : BufTy.Contents (Elt F) arg12.view.ty)
    (hf0 : arg12.view.read (Elt F) f = k0_pay32 (F := F)) (E : Set ℕ)
    {β : Type} (kk : FVec F S8x1024 .f32 → Prog (TpuEff nD τ sig (Elt F) Λ₀ .tc) β) (Q : β → sProp 𝕄) :
    (iprop((arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f)) : sProp 𝕄)
      ⊢ iprop((∀ acc, (iprop(∃ f, ⌜acc = sums (arg10.view.read (Elt F) X10) v152 (k0_t3_loop v1).trips ∧ arg12.view.read (Elt F) f = prods (arg10.view.read (Elt F) X10) (arg5.view.read (Elt F) X5) v152 (k0_t3_loop v1).trips⌝ ∗ (arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f)) : sProp 𝕄) -∗ wp Idealize.ShloMosaic.frame (wpE (defs₀ (F := F)) Variants.none (c : Thread nD τ) none) E (kk acc) Q)
        -∗ wp Idealize.ShloMosaic.frame (wpE (defs₀ (F := F)) Variants.none (c : Thread nD τ) none) E (Scf.Loop.for (k0_t3_loop v1) (k0_t3_ok v1 k0_hw1) (k0_pay33 (F := F)) (k0_t3_body (F := F) i tbM0_0 htbM0_0 arg3 harg3 arg4 harg4 arg5 harg5 arg6 harg6 arg7 harg7 arg8 harg8 arg9 harg9 arg10 harg10 arg11 harg11 arg12 harg12 v1 k0_hw1 v152) >>= kk) Q) := by
  refine (show _ ⊢ (iprop(∃ f, ⌜(k0_pay33 (F := F)) = sums (arg10.view.read (Elt F) X10) v152 0 ∧ arg12.view.read (Elt F) f = prods (arg10.view.read (Elt F) X10) (arg5.view.read (Elt F) X5) v152 0⌝ ∗ (arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f)) : sProp 𝕄) from ?_).trans (Scf.wp_for_bind Idealize.ShloMosaic.frame (wpE (defs₀ (F := F)) Variants.none (c : Thread nD τ) none) E
    (k0_t3_loop v1).lb (k0_t3_loop v1).ub (k0_t3_loop v1).st (k0_t3_ok v1 k0_hw1) (k0_pay33 (F := F)) _
    (fun k acc => (iprop(∃ f, ⌜acc = sums (arg10.view.read (Elt F) X10) v152 k ∧ arg12.view.read (Elt F) f = prods (arg10.view.read (Elt F) X10) (arg5.view.read (Elt F) X5) v152 k⌝ ∗ (arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f)) : sProp 𝕄)) (fun k acc => ?_))
  · iintro ⟨H2, HS1, HS3⟩
    iexists f
    isplitr; · ipureintro; exact ⟨rfl, hf0⟩
    isplitl [H2]; · iexact H2
    isplitl [HS1]; · iexact HS1
    iexact HS3
  · iintro ⟨%g, %hg, H2, HS1, HS3⟩
    obtain ⟨ha, hf⟩ := hg
    have hk : k.val < 24 := lt_of_lt_of_le k.isLt (trips3_le v1 h1)
    iapply (wp_wand_r Idealize.ShloMosaic.frame (wpE (defs₀ (F := F)) Variants.none (c : Thread nD τ) none) E)
    isplitl [H2 HS1 HS3]
    · iapply (trip3 c i arg3 harg3 arg4 harg4 arg5 harg5 arg6 harg6 arg7 harg7 arg8 harg8 arg9 harg9 arg10 harg10 arg11 harg11 arg12 harg12 v1 k0_hw1 v152 X5 X10 g k acc E)
      isplitl [H2]; · iexact H2
      isplitl [HS1]; · iexact HS1
      iexact HS3
    · iintro %y ⟨%hy, H2, HS1, HS3⟩
      iexists _
      isplitr; swap
      · isplitl [H2]; · iexact H2
        isplitl [HS1]; · iexact HS1
        iexact HS3
      ipureintro
      rw [rows_read arg10.view X10 k.val hk _ (off8_eq v1 h1 k)] at hy
      refine ⟨by rw [hy, ha]; rfl, ?_⟩
      rw [View.read_writes_full, rows_read arg10.view X10 k.val hk _ (off8_eq v1 h1 k), vals_read arg5.view X5 k.val hk _ (off9_eq v1 h1 k), View.readAt_full, hf]
      rfl

end Cert.KernelIdeal.Gen

end
-- ==== Proof.KernelIdeal.RunV.lean ====
/- The attention body run once at a grid point, with the attention output it leaves. -/
module

public import proofs.«01_k».proof.Proof.KernelIdeal.LoopVal
public import Idealize.ShloMosaic.Lib.ValueIdxCore
public import Idealize.ShloMosaic.Lib.WritesUnit
public import proofs.«01_k».proof.Proof.Gen.KernelIdeal.Loops
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- The scores of chunk `k`. -/
def scoreC (x : Vec F S1x1x6144x128 .bf16) (a : Vec F S6144x128 .bf16) (q : Vec F S256x1024 .bf16) (k : ℕ) : Vec F S256x1024 .f32 :=
  k0_pay26 (keysC x k) (maskC a k) q
/-- The sums of the weights of the chunks `σ`, -/
def sumsF (σ : ℕ → Vec F S256x1024 .f32) (v152 : FVec F S1x1024 .f32) : ℕ → FVec F S8x1024 .f32
  | 0 => k0_pay33 (F := F)
  | k + 1 => k0_pay2 v152 (sumsF σ v152 k) (σ k)
/-- and their accumulated products with the values. -/
def prodsF (σ : ℕ → Vec F S256x1024 .f32) (x : Vec F S1x1x128x6144 .bf16) (v152 : FVec F S1x1024 .f32) : ℕ → Vec F S128x1024 .f32
  | 0 => k0_pay32 (F := F)
  | k + 1 => k0_pay3 v152 (σ k) (prodsF σ x v152 k) (valsC x k)

theorem sums_eq (s : Vec F S6144x1024 .f32) (σ : ℕ → Vec F S256x1024 .f32) (v : FVec F S1x1024 .f32) (n : ℕ) (h : ∀ k < n, rowsC s k = σ k) :
    sums s v n = sumsF σ v n := by
  induction n with
  | zero => rfl
  | succ n ih =>
    show k0_pay2 v (sums s v n) (rowsC s n) = k0_pay2 v (sumsF σ v n) (σ n)
    rw [ih fun k hk => h k (Nat.lt_succ_of_lt hk), h n (Nat.lt_succ_self n)]
theorem prods_eq (s : Vec F S6144x1024 .f32) (σ : ℕ → Vec F S256x1024 .f32) (x : Vec F S1x1x128x6144 .bf16) (v : FVec F S1x1024 .f32) (n : ℕ) (h : ∀ k < n, rowsC s k = σ k) :
    prods s x v n = prodsF σ x v n := by
  induction n with
  | zero => rfl
  | succ n ih =>
    show k0_pay3 v (rowsC s n) (prods s x v n) (valsC x n) = k0_pay3 v (σ n) (prodsF σ x v n) (valsC x n)
    rw [ih fun k hk => h k (Nat.lt_succ_of_lt hk), h n (Nat.lt_succ_self n)]

/-- The number of chunks of a length. -/
def chunks (v1 : BitVec 32) : ℕ := (k0_t1_loop v1).trips
theorem chunks3 (v1 : BitVec 32) : (k0_t3_loop v1).trips = chunks v1 := rfl

/-- The largest score of each query over `n` chunks, scaled and lowered by eight. -/
def topOf (x : Vec F S1x1x6144x128 .bf16) (a : Vec F S6144x128 .bf16) (q : Vec F S256x1024 .bf16) (n : ℕ) : FVec F S1x1024 .f32 :=
  k0_pay31 (maxes x a q n)
/-- The attention output of a tile. -/
def outOf (x1 : Vec F S1x1x6144x128 .bf16) (x2 : Vec F S1x1x128x6144 .bf16) (a : Vec F S6144x128 .bf16) (q : Vec F S256x1024 .bf16) (n : ℕ) : Vec F S1x1x1024x128 .bf16 :=
  k0_pay7 (sumsF (scoreC x1 a q) (topOf x1 a q n) n) (prodsF (scoreC x1 a q) x2 (topOf x1 a q n) n)

/-- The dequantised queries the body stores in the upper half of the query side, -/
def deqOf (x0 : Vec F S1x1x1024x128 .bf16) : FVec F S128x1024 .bf16 :=
  k0_pay23 (k0_pay19 (k0_pay10 x0) (k0_pay11 x0) (v79Of x0) (v81Of x0) 23#32)
/-- and the query side: above those, one row of ones and zeros. -/
def qside (x0 : Vec F S1x1x1024x128 .bf16) : Vec F S256x1024 .bf16 := fun y =>
  if h : (y 0).val < 128 then deqOf x0 (ix2 (⟨(y 0).val, h⟩ : Fin 128) (y 1))
  else k0_pay9 (F := F) (ix2 (⟨(y 0).val - 128, by have : (y 0).val < 256 := (y 0).isLt; omega⟩ : Fin 128) (y 1))
/-- The lower half of the query side is the row of ones and zeros. -/
def Low (q : Vec F S256x1024 .bf16) : Prop := ∀ y : S256x1024.Idx, (h : 128 ≤ (y 0).val) →
  q y = k0_pay9 (F := F) (ix2 (⟨(y 0).val - 128, by have : (y 0).val < 256 := (y 0).isLt; omega⟩ : Fin 128) (y 1))
theorem low_qside (x0 : Vec F S1x1x1024x128 .bf16) : Low (qside x0) := fun y h => dif_neg (by omega)

/-- Storing the dequantised queries over a buffer whose lower half is in place makes the query side. -/
theorem qside_of {sp : Space} {κ : Kind} (v : View sig κ sp S256x1024 .bf16) (f : v.ty.Contents (Elt F)) (L : List (View.Piece (Elt F) S256x1024 .bf16)) (x0 : Vec F S1x1x1024x128 .bf16)
    (h : Low (v.read (Elt F) (v.writes (Elt F) f L))) (inb : ∀ a, (![0, 0] : Fin 2 → ℕ) a + S128x1024.size a ≤ S256x1024.size a) :
    v.read (Elt F) (v.writes (Elt F) f (⟨Rect.unit (s := S256x1024) ![0, 0] S128x1024.size inb, deqOf x0⟩ :: L)) = qside x0 := by
  funext y
  by_cases hy : (y 0).val < 128
  · refine (View.read_writes_cons_unit_of_mem v f inb _ L y (ix2 (⟨(y 0).val, hy⟩ : Fin 128) (y 1)) rfl fun b => ?_).trans (dif_pos hy : qside x0 y = _).symm
    match b with
    | ⟨0, _⟩ => show (y 0).val = 0 + (y 0).val; omega
    | ⟨1, _⟩ => show (y 1).val = 0 + (y 1).val; omega
  · refine (View.read_writes_cons_unit_of_not_mem v f inb _ L y rfl (0 : Fin 2) (Or.inr (by show 0 + 128 ≤ (y 0).val; omega))).trans ?_
    exact (h y (by omega)).trans (dif_neg hy : qside x0 y = _).symm
theorem low_of {sp : Space} {κ : Kind} (v : View sig κ sp S256x1024 .bf16) (f : v.ty.Contents (Elt F))
    (inb : ∀ a, (![128, 0] : Fin 2 → ℕ) a + S128x1024.size a ≤ S256x1024.size a) :
    Low (v.read (Elt F) (v.writes (Elt F) f [⟨Rect.unit (s := S256x1024) ![128, 0] S128x1024.size inb, k0_pay9 (F := F)⟩])) := by
  intro y hy
  have h0 : (y 0).val < 256 := (y 0).isLt
  refine View.read_writes_cons_unit_of_mem v f inb _ [] y (ix2 (⟨(y 0).val - 128, by omega⟩ : Fin 128) (y 1)) rfl fun b => ?_
  match b with
  | ⟨0, _⟩ => show (y 0).val = 128 + ((y 0).val - 128); omega
  | ⟨1, _⟩ => show (y 1).val = 0 + (y 1).val; omega

set_option maxHeartbeats 1600000 in
/-- The second half of the body: from the scores and an accumulator at zero, it leaves the output tile. -/
theorem run_tailV (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v152 : FVec F S1x1024 .f32) (X5 : BufTy.Contents (Elt F) arg5.view.ty) (X10 : BufTy.Contents (Elt F) arg10.view.ty) (h1 : v1.toInt ≤ 6144) (f12 : BufTy.Contents (Elt F) arg12.view.ty)
    (hf0 : arg12.view.read (Elt F) f12 = k0_pay32 (F := F)) (f6 : BufTy.Contents (Elt F) arg6.view.ty) (E : Set ℕ) (K : PUnit → sProp 𝕄) :
    iprop((arg5.view.loc (c : Thread nD τ) ↦[arg5.view.set]{fullShare} X5) ∗ (arg10.view.loc (c : Thread nD τ) ↦[arg10.view.set]{fullShare} X10) ∗ (arg12.view.loc (c : Thread nD τ) ↦[arg12.view.set]{fullShare} f12) ∗ (arg6.view.loc (c : Thread nD τ) ↦[arg6.view.set]{fullShare} f6)
        ∗ (iprop((arg5.view.loc (c : Thread nD τ) ↦[arg5.view.set]{fullShare} X5) ∗ (arg10.view.loc (c : Thread nD τ) ↦[arg10.view.set]{fullShare} X10) ∗ (∃ f, (arg12.view.loc (c : Thread nD τ) ↦[arg12.view.set]{fullShare} f))
          ∗ (∃ f, ⌜arg6.view.read (Elt F) f = k0_pay7 (sums (arg10.view.read (Elt F) X10) v152 (chunks v1)) (prods (arg10.view.read (Elt F) X10) (arg5.view.read (Elt F) X5) v152 (chunks v1))⌝ ∗ (arg6.view.loc (c : Thread nD τ) ↦[arg6.view.set]{fullShare} f))) -∗ K ⟨⟩))
      ⊢ wp Idealize.ShloMosaic.frame (wpE (defs₀ (F := F)) Variants.none (c : Thread nD τ) none) E (do
        let v163 : FVec F S8x1024 .f32 ← Scf.Loop.for (k0_t3_loop v1) (k0_t3_ok v1 k0_hw1) (k0_pay33 (F := F)) (k0_t3_body i tbM0_0 htbM0_0 arg3 harg3 arg4 harg4 arg5 harg5 arg6 harg6 arg7 harg7 arg8 harg8 arg9 harg9 arg10 harg10 arg11 harg11 arg12 harg12 v1 k0_hw1 v152)
        let v164 : FVec F S8x1024 .f32 ← Scf.Loop.for (k0_t4_loop v1) (k0_t4_ok v1 k0_hw1) v163 (k0_t4_body i tbM0_0 htbM0_0 arg3 harg3 arg4 harg4 arg5 harg5 arg6 harg6 arg7 harg7 arg8 harg8 arg9 harg9 arg10 harg10 arg11 harg11 arg12 harg12 v1 k0_hw1 v152)
        let v169 : Vec F S128x1024 .f32 ← Prog.lift (.load arg12 (Rect.unit (s := S128x1024) ![0, 0] S128x1024.size inb_S128x1024_S128x1024_0_0).toLoadRect (View.loadsAt_vmem h_S128x1024))
        let v174 : Vec F S1x1x1024x128 .bf16 ← Prog.lift (.load arg6 (Rect.unit (s := S1x1x1024x128) ![0, 0, 0, 0] S1x1x1024x128.size inb_S1x1x1024x128_S1x1x1024x128_0_0_0_0).toLoadRect (View.loadsAt_vmem h_S1x1x1024x128))
        Prog.lift (.store arg6 (Rect.unit (s := S1x1x1024x128) ![0, 0, 0, 0] S1x1x1024x128.size inb_S1x1x1024x128_S1x1x1024x128_0_0_0_0) (k0_pay7 v164 v169) Finset.univ (View.stores_vmem h_S1x1x1024x128 (harg6.storeExact_slice rfl _ packedbf16_S1x1x1024x128_S1x1x1024x128_0_0_0_0) (fun _ => rfl)) (.inl rfl))
        pure ⟨⟩)  K := by
    iintro ⟨H2, HS1, HS3, H3, Hk⟩
    iapply (loop3 c i arg3 harg3 arg4 harg4 arg5 harg5 arg6 harg6 arg7 harg7 arg8 harg8 arg9 harg9 arg10 harg10 arg11 harg11 arg12 harg12 v1 k0_hw1 v152 X5 X10 h1 f12 hf0 E _ K) $$ [H2 HS1 HS3]
    · isplitl [H2]; · iexact H2
      isplitl [HS1]; · iexact HS1
      iexact HS3
    iintro %acc ⟨%g, %hg, H2, HS1, HS3⟩
    obtain ⟨rfl, hg⟩ := hg
    rw [show Scf.Loop.for (k0_t4_loop v1) (k0_t4_ok v1 k0_hw1) (sums (arg10.view.read (Elt F) X10) v152 (k0_t3_loop v1).trips) (k0_t4_body i tbM0_0 htbM0_0 arg3 harg3 arg4 harg4 arg5 harg5 arg6 harg6 arg7 harg7 arg8 harg8 arg9 harg9 arg10 harg10 arg11 harg11 arg12 harg12 v1 k0_hw1 v152)
        = .ret (sums (arg10.view.read (Elt F) X10) v152 (k0_t3_loop v1).trips) from Scf.for_eq_ret _ _ _ _ _ _ (Scf.rem_trips _ _)]
    sl_exec
    sl_step
    iapply Hk
    isplitl [H2]; · iexact H2
    isplitl [HS1]; · iexact HS1
    isplitl [HS3]; · iexists _; iexact HS3
    iexists _; isplitr; swap; · iexact H3
    ipureintro
    sl_unfold_run_names
    rw [View.read_writes_full, View.readAt_full, hg]
    rfl

set_option maxHeartbeats 1600000 in
/-- The first half of the body after the stores: the score loop, and the accumulator set to zero. -/
theorem run_mid (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (v1 : Elt F .i32) (k0_hw1 : k0_chk1 v1) (v3 : BitVec 32) (v104 : FVec F S4x1024 .f32) (v126 : FVec F S128x1024 .bf16) (v129 : FVec F S1024x128 .fp8e4m3) (X4 : BufTy.Contents (Elt F) arg4.view.ty) (X9 : BufTy.Contents (Elt F) arg9.view.ty) (X11 : BufTy.Contents (Elt F) arg11.view.ty) (h1 : v1.toInt ≤ 6144) (f10 : BufTy.Contents (Elt F) arg10.view.ty) (f12 : BufTy.Contents (Elt F) arg12.view.ty) (v162 : BitVec 32)
    (E : Set ℕ) (K : (Σ' (v152 : FVec F S1x1024 .f32) (v157 : FVec F S8x1024 .f32) (c0_i32_51 : BitVec 32), BitVec 32) → sProp 𝕄) :
    iprop((arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f10) ∗ (arg12.view.loc (c : Thread nD τ) ↦[arg12.view.set]{fullShare} f12)
        ∗ (iprop(∃ f g, ⌜Filled (arg4.view.read (Elt F) X4) (arg11.view.read (Elt F) X11) (arg9.view.read (Elt F) X9) (chunks v1) (arg10.view.read (Elt F) f) ∧ arg12.view.read (Elt F) g = k0_pay32 (F := F)⌝
            ∗ (arg4.view.loc (c : Thread nD τ) ↦[arg4.view.set]{fullShare} X4) ∗ (arg9.view.loc (c : Thread nD τ) ↦[arg9.view.set]{fullShare} X9) ∗ (arg11.view.loc (c : Thread nD τ) ↦[arg11.view.set]{fullShare} X11) ∗ (arg10.view.loc (c : Thread nD τ) ↦[arg10.view.set]{fullShare} f) ∗ (arg12.view.loc (c : Thread nD τ) ↦[arg12.view.set]{fullShare} g)) -∗ K ⟨k0_pay31 (maxes (arg4.view.read (Elt F) X4) (arg11.view.read (Elt F) X11) (arg9.view.read (Elt F) X9) (k0_t1_loop v1).trips), k0_pay33 (F := F), 0#32, v162⟩))
      ⊢ wp Idealize.ShloMosaic.frame (wpE (defs₀ (F := F)) Variants.none (c : Thread nD τ) none) E (do
        let v145 : FVec F S8x1024 .f32 ← Scf.Loop.for (k0_t1_loop v1) (k0_t1_ok v1 k0_hw1) (k0_pay24 (F := F)) (k0_t1_body (F := F) i tbM0_0 htbM0_0 arg3 harg3 arg4 harg4 arg5 harg5 arg6 harg6 arg7 harg7 arg8 harg8 arg9 harg9 arg10 harg10 arg11 harg11 arg12 harg12 v1 k0_hw1 v3 v104 v126 v129)
        let v146 : FVec F S8x1024 .f32 ← Scf.Loop.for (k0_t2_loop v1) (k0_t2_ok v1 k0_hw1) v145 (k0_t2_body (F := F) i tbM0_0 htbM0_0 arg3 harg3 arg4 harg4 arg5 harg5 arg6 harg6 arg7 harg7 arg8 harg8 arg9 harg9 arg10 harg10 arg11 harg11 arg12 harg12 v1 k0_hw1 v3 v104 v126 v129)
        let v154 : Vec F S128x1024 .f32 ← Prog.lift (.load arg12 (Rect.unit (s := S128x1024) ![0, 0] S128x1024.size inb_S128x1024_S128x1024_0_0).toLoadRect (View.loadsAt_vmem h_S128x1024))
        Prog.lift (.store arg12 (Rect.unit (s := S128x1024) ![0, 0] S128x1024.size inb_S128x1024_S128x1024_0_0) (k0_pay32 (F := F)) Finset.univ (View.stores_vmem_bits_univ h_S128x1024 rfl) (.inl rfl))
        pure ⟨k0_pay31 v146, k0_pay33 (F := F), 0#32, v162⟩) K := by
    iintro ⟨H1, HS0, HS2, HS1, HS3, Hk⟩
    iapply (loop1 c i arg3 harg3 arg4 harg4 arg5 harg5 arg6 harg6 arg7 harg7 arg8 harg8 arg9 harg9 arg10 harg10 arg11 harg11 arg12 harg12 v1 k0_hw1 v3 v104 v126 v129 X4 X9 X11 h1 f10 E _ K) $$ [H1 HS0 HS2 HS1]
    · isplitl [H1]; · iexact H1
      isplitl [HS0]; · iexact HS0
      isplitl [HS2]; · iexact HS2
      iexact HS1
    iintro %acc ⟨%g, %hg, H1, HS0, HS2, HS1⟩
    obtain ⟨rfl, hg⟩ := hg
    rw [show Scf.Loop.for (k0_t2_loop v1) (k0_t2_ok v1 k0_hw1) (maxes (arg4.view.read (Elt F) X4) (arg11.view.read (Elt F) X11) (arg9.view.read (Elt F) X9) (k0_t1_loop v1).trips) (k0_t2_body (F := F) i tbM0_0 htbM0_0 arg3 harg3 arg4 harg4 arg5 harg5 arg6 harg6 arg7 harg7 arg8 harg8 arg9 harg9 arg10 harg10 arg11 harg11 arg12 harg12 v1 k0_hw1 v3 v104 v126 v129)
        = .ret (maxes (arg4.view.read (Elt F) X4) (arg11.view.read (Elt F) X11) (arg9.view.read (Elt F) X9) (k0_t1_loop v1).trips) from Scf.for_eq_ret _ _ _ _ _ _ (Scf.rem_trips _ _)]
    sl_exec
    sl_step
    iapply Hk
    iexists _, _
    isplitr; swap
    · isplitl [H1]; · iexact H1
      isplitl [HS0]; · iexact HS0
      isplitl [HS2]; · iexact HS2
      isplitl [HS1]; · iexact HS1
      iexact HS3
    ipureintro
    refine ⟨hg, ?_⟩
    sl_unfold_run_names
    rw [View.read_writes_full]

end Cert.KernelIdeal.Gen

end
-- ==== Proof.Value.Chunks.lean ====
/- The attention body's chunks, read over the extended reals: the output is a quotient of sums over the keys. -/
module

public import proofs.«01_k».proof.Proof.Value.AttnElem
public import proofs.«01_k».proof.Proof.KernelIdeal.RunV
public import proofs.«01_k».proof.Proof.KernelIdeal.Chk

@[expose] public section

set_option maxRecDepth 16384

noncomputable section

namespace Cert.KernelIdeal.Gen

open Idealize.ShloMosaic Idealize.ShloMosaic.TcCoe

/-- The key a position names. -/
def pos (p : ℕ) : Fin 6144 := ⟨p % 6144, Nat.mod_lt _ (by decide)⟩

/-- The score of a query `D` with the key at position `p`. -/
def sc (K : Fin 6144 → Fin 128 → ℝ) (D : Fin 128 → ℝ) (p : ℕ) : ℝ := ∑ d : Fin 128, K (pos p) d * D d

/-- The masked score: past the length it is the least extended real. -/
def msc (K : Fin 6144 → Fin 128 → ℝ) (D : Fin 128 → ℝ) (len p : ℕ) : EReal := if p < len then (sc K D p : EReal) else ⊥

theorem coe_sumF {ι : Type} (s : Finset ι) (f : ι → ℝ) : ((∑ p ∈ s, f p : ℝ) : EReal) = ∑ p ∈ s, (f p : EReal) := by
  classical
  induction s using Finset.induction_on with
  | empty => simp
  | insert a s ha ih => rw [Finset.sum_insert ha, Finset.sum_insert ha, EReal.coe_add, ih]

theorem sum_halves (f : Fin 256 → EReal) : ∑ e, f e = (∑ d : Fin 128, f ⟨d.val, by omega⟩) + ∑ d : Fin 128, f ⟨128 + d.val, by omega⟩ :=
  @Fin.sum_univ_add EReal _ 128 128 f

theorem score_apply (x0 : Vec Ideal S1x1x1024x128 .bf16) (x1 : Vec Ideal S1x1x6144x128 .bf16) (L : BitVec 32) (len : ℕ) (hL : L.toInt = (len : ℤ))
    (K : Fin 6144 → Fin 128 → ℝ) (D : Fin 128 → ℝ) (r : Fin 1024) (hK : ∀ p d, x1 (ix4 (0 : Fin 1) (0 : Fin 1) p d) = (K p d : EReal))
    (hD : ∀ d, deqOf (F := Ideal) x0 (ix2 d r) = (D d : EReal)) (p k i : ℕ) (hi : i < 256) (hp : p = 256 * k + i) (hp2 : p < 6144) :
    scoreC (F := Ideal) x1 (k0_pay8 (F := Ideal) L) (qside x0) k (ix2 (⟨i, hi⟩ : Fin 256) r) = msc K D len p := by
  unfold scoreC msc sc
  rw [pay26_apply, pay25_apply, sum_halves]
  have h1 : ∀ d : Fin 128, (if h : d.val < 128 then keysC (F := Ideal) x1 k (ix4 (0 : Fin 1) (0 : Fin 1) (⟨i, hi⟩ : Fin 256) ⟨d.val, h⟩) else maskC (F := Ideal) (k0_pay8 (F := Ideal) L) k (ix2 (⟨i, hi⟩ : Fin 256) ⟨d.val - 128, by omega⟩))
      * qside (F := Ideal) x0 (ix2 (⟨d.val, by omega⟩ : Fin 256) r) = ((K (pos p) d * D d : ℝ) : EReal) := fun d => by
    rw [dif_pos d.isLt]
    have e : qside (F := Ideal) x0 (ix2 (⟨d.val, by omega⟩ : Fin 256) r) = deqOf x0 (ix2 d r) := dif_pos d.isLt
    rw [e, hD, EReal.coe_mul]
    subst hp
    exact congrArg (fun z : EReal => z * (D d : EReal)) (hK _ _)
  have h2 : ∀ d : Fin 128, (if h : 128 + d.val < 128 then keysC (F := Ideal) x1 k (ix4 (0 : Fin 1) (0 : Fin 1) (⟨i, hi⟩ : Fin 256) ⟨128 + d.val, h⟩) else maskC (F := Ideal) (k0_pay8 (F := Ideal) L) k (ix2 (⟨i, hi⟩ : Fin 256) ⟨128 + d.val - 128, by omega⟩))
      * qside (F := Ideal) x0 (ix2 (⟨128 + d.val, by omega⟩ : Fin 256) r) = if d = 0 then (if p < len then (0 : EReal) else ⊥) else 0 := fun d => by
    rw [dif_neg (by omega)]
    have e : qside (F := Ideal) x0 (ix2 (⟨128 + d.val, by omega⟩ : Fin 256) r) = k0_pay9 (F := Ideal) (ix2 (⟨128 + d.val - 128, by omega⟩ : Fin 128) r) := dif_neg (by show ¬ (128 + d.val < 128); omega)
    have e' : maskC (F := Ideal) (k0_pay8 (F := Ideal) L) k (ix2 (⟨i, hi⟩ : Fin 256) (⟨128 + d.val - 128, by omega⟩ : Fin 128)) = k0_pay8 (F := Ideal) L (ix2 (⟨p % 6144, Nat.mod_lt _ (by decide)⟩ : Fin 6144) (⟨128 + d.val - 128, by omega⟩ : Fin 128)) := by
      subst hp; rfl
    rw [e, e', pay9_apply, pay8_apply]
    have hd : (128 + d.val - 128 = 0) ↔ d = 0 := by rw [Fin.ext_iff]; show _ ↔ d.val = 0; omega
    have hl : L.toInt ≤ ((p % 6144 : ℕ) : ℤ) ↔ ¬ p < len := by rw [hL, Nat.mod_eq_of_lt hp2]; omega
    by_cases c1 : d = 0
    · by_cases c2 : p < len
      · rw [if_pos (hd.mpr c1), if_pos c1, if_pos c2, if_neg (fun h => hl.mp h.1 c2), zero_mul]
      · rw [if_pos (hd.mpr c1), if_pos c1, if_neg c2, if_pos ⟨hl.mpr c2, hd.mpr c1⟩, mul_one]
    · rw [if_neg (fun h => c1 (hd.mp h)), if_neg c1, mul_zero]
  refine (congrArg₂ (fun u v : EReal => u + v) (Finset.sum_congr rfl fun d _ => h1 d) (Finset.sum_congr rfl fun d _ => h2 d)).trans ?_
  rw [Finset.sum_ite_eq' Finset.univ (0 : Fin 128) (fun _ => if p < len then (0 : EReal) else ⊥), if_pos (Finset.mem_univ _), coe_sumF]
  by_cases c : p < len
  · rw [if_pos c, if_pos c, add_zero]
  · rw [if_neg c, if_neg c, EReal.add_bot]

theorem maxes_le (x1 : Vec Ideal S1x1x6144x128 .bf16) (a : Vec Ideal S6144x128 .bf16) (q : Vec Ideal S256x1024 .bf16) (n : ℕ) (j : Fin 8) (r : Fin 1024) (u : EReal) :
    maxes (F := Ideal) x1 a q n (ix2 j r) ≤ u ↔ ∀ k < n, ∀ i : Fin 32, scoreC (F := Ideal) x1 a q k (ix2 (⟨i.val * 8 + j.val, by omega⟩ : Fin 256) r) ≤ u := by
  induction n with
  | zero =>
    show k0_pay24 (F := Ideal) (ix2 j r) ≤ u ↔ _
    rw [pay24_apply]
    exact ⟨fun _ k hk => absurd hk (Nat.not_lt_zero k), fun _ => bot_le⟩
  | succ n ih =>
    show k0_pay27 (F := Ideal) (maxes x1 a q n) (keysC x1 n) (maskC a n) q (ix2 j r) ≤ u ↔ _
    rw [pay27_apply, max_le_iff, ih, Finset.fold_max_le, ninf_bits]
    have es : ∀ i : Fin 32, scoreC (F := Ideal) x1 a q n (ix2 (⟨i.val * 8 + j.val, by omega⟩ : Fin 256) r) = k0_pay25 (F := Ideal) (keysC x1 n) (maskC a n) q (ix2 (⟨i.val * 8 + j.val, by omega⟩ : Fin 256) r) :=
      fun i => pay26_apply _ _ _ _ _
    constructor
    · rintro ⟨h, -, h'⟩ k hk i
      rcases Nat.lt_succ_iff_lt_or_eq.mp hk with hk | rfl
      · exact h k hk i
      · rw [es]; exact h' i (Finset.mem_univ _)
    · intro h
      exact ⟨fun k hk i => h k (Nat.lt_succ_of_lt hk) i, bot_le, fun i _ => (es i).symm.trans_le (h n (Nat.lt_succ_self n) i)⟩

theorem sumsF_apply (σ : ℕ → Vec Ideal S256x1024 .f32) (v : FVec Ideal S1x1024 .f32) (n : ℕ) (j : Fin 8) (r : Fin 1024) :
    sumsF (F := Ideal) σ v n (ix2 j r) = ∑ k ∈ Finset.range n, ∑ i : Fin 32, k0_pay1 (F := Ideal) v (σ k) (ix2 (⟨i.val * 8 + j.val, by omega⟩ : Fin 256) r) := by
  induction n with
  | zero => exact (pay33_apply j r).trans (Finset.sum_range_zero _).symm
  | succ n ih =>
    show k0_pay2 (F := Ideal) v (sumsF σ v n) (σ n) (ix2 j r) = _
    rw [pay2_apply, ih, Finset.sum_range_succ]

theorem prodsF_apply (σ : ℕ → Vec Ideal S256x1024 .f32) (x : Vec Ideal S1x1x128x6144 .bf16) (v : FVec Ideal S1x1024 .f32) (n : ℕ) (d : Fin 128) (r : Fin 1024) :
    prodsF (F := Ideal) σ x v n (ix2 d r) = ∑ k ∈ Finset.range n, ∑ i : Fin 256, valsC (F := Ideal) x k (ix4 (0 : Fin 1) (0 : Fin 1) d i) * clipP (k0_pay1 (F := Ideal) v (σ k) (ix2 i r)) := by
  induction n with
  | zero => exact (pay32_apply d r).trans (Finset.sum_range_zero _).symm
  | succ n ih =>
    show k0_pay3 (F := Ideal) v (σ n) (prodsF σ x v n) (valsC x n) (ix2 d r) = _
    rw [pay3_apply, ih, Finset.sum_range_succ]

theorem eight_bits : Ideal.ofBits .f32 0x41000000#32 = ((8 : ℝ) : EReal) := by
  simp [Ideal.ofBits, Ideal.ieee]
  norm_num
  rw [← EReal.coe_mul]
  norm_num

theorem clipP_zero : clipP 0 = 0 := by
  unfold clipP
  rw [Cert.Scale.zero_bits]
  have h : (0 : EReal) ≤ Ideal.ofBits .f32 0x43E00000#32 := by
    simp [Ideal.ofBits, Ideal.ieee]
    try norm_num
    try positivity
  show min (Ideal.ofBits .f32 0x43E00000#32) (max 0 0) = 0
  rw [max_self, min_eq_right h]

/-- The chunks of a length reach past it and stay within the keys. -/
theorem chunks_key : ∀ n : Fin 6145, n.val ≤ 256 * Scf.trips 0#32 (Scalar.divsi (Scalar.addi (BitVec.ofNat 32 n.val) 255#32) 256#32) 1#32 := by decide +kernel

theorem chunks_ge (L : BitVec 32) (len : ℕ) (hL : L.toInt = (len : ℤ)) (hl : len ≤ 6144) : len ≤ 256 * chunks L := by
  have e : L = BitVec.ofNat 32 len := by
    apply BitVec.eq_of_toInt_eq
    rw [hL, BitVec.toInt_eq_toNat_of_lt (by rw [BitVec.toNat_ofNat]; omega), BitVec.toNat_ofNat]
    omega
  have k := chunks_key ⟨len, by omega⟩
  subst e
  unfold chunks
  show len ≤ 256 * Scf.trips 0#32 (k0_t1_loop (BitVec.ofNat 32 len)).ub 1#32
  rw [show (k0_t1_loop (BitVec.ofNat 32 len)).ub = Scalar.divsi (Scalar.addi (BitVec.ofNat 32 len) 255#32) 256#32 from bound_eq _]
  exact k

/-- The attention output of a tile, at a query and a feature: the weighted values over the sum of the weights, every key counted. -/
theorem out_core (x0 : Vec Ideal S1x1x1024x128 .bf16) (x1 : Vec Ideal S1x1x6144x128 .bf16) (x2 : Vec Ideal S1x1x128x6144 .bf16) (L : BitVec 32) (len : ℕ) (hL : L.toInt = (len : ℤ)) (hl1 : 1 ≤ len) (hl : len ≤ 6144)
    (K : Fin 6144 → Fin 128 → ℝ) (D : Fin 128 → ℝ) (r : Fin 1024) (d : Fin 128) (hK : ∀ p d, x1 (ix4 (0 : Fin 1) (0 : Fin 1) p d) = (K p d : EReal))
    (hD : ∀ d, deqOf (F := Ideal) x0 (ix2 d r) = (D d : EReal))
    (M : EReal) (hM : ∀ u, M ≤ u ↔ ∀ p < 6144, (if p < len then ((sc K D p * Cert.Attn.rs : ℝ) : EReal) else ⊥) ≤ u) :
    outOf (F := Ideal) x1 x2 (k0_pay8 (F := Ideal) L) (qside x0) (chunks L) (ix4 (0 : Fin 1) (0 : Fin 1) r d)
      = Ideal.div ((∑ p ∈ Finset.range 6144, clipP (Ideal.exp ((if p < len then ((sc K D p * Cert.Attn.rs : ℝ) : EReal) else ⊥) - M) * ((256 : ℝ) : EReal)) * x2 (ix4 (0 : Fin 1) (0 : Fin 1) d (pos p))) * (((1 / 256 : ℝ)) : EReal))
      (∑ p ∈ Finset.range 6144, Ideal.exp ((if p < len then ((sc K D p * Cert.Attn.rs : ℝ) : EReal) else ⊥) - M)) := by
  have hn := chunks_ge L len hL hl
  have hn2 : 256 * chunks L ≤ 6144 := by
    have : chunks L ≤ 24 := trips1_le L (by rw [hL]; omega)
    omega
  generalize chunks L = n at hn hn2 ⊢
  have sE : ∀ (p k i : ℕ) (hi : i < 256), p = 256 * k + i → p < 6144 → scoreC (F := Ideal) x1 (k0_pay8 (F := Ideal) L) (qside x0) k (ix2 (⟨i, hi⟩ : Fin 256) r) = msc K D len p :=
    score_apply x0 x1 L len hL K D r hK hD
  unfold outOf topOf
  have hk : ∀ u, (Finset.univ.fold max (Ideal.ofBits .f32 0xFF800000#32) fun j : Fin 8 => maxes (F := Ideal) x1 (k0_pay8 (F := Ideal) L) (qside x0) n (ix2 j r)) ≤ u ↔ ∀ p < 256 * n, msc K D len p ≤ u := by
    intro u
    rw [Finset.fold_max_le, ninf_bits]
    constructor
    · rintro ⟨-, h⟩ p hp
      have h' := (maxes_le _ _ _ _ _ _ _).mp (h ⟨p % 256 % 8, by omega⟩ (Finset.mem_univ _)) (p / 256) (by omega) ⟨p % 256 / 8, by omega⟩
      rwa [sE p (p / 256) _ _ (by show p = 256 * (p / 256) + (p % 256 / 8 * 8 + p % 256 % 8); omega) (by omega)] at h'
    · intro h
      refine ⟨bot_le, fun j _ => (maxes_le _ _ _ _ _ _ _).mpr fun k hk i => ?_⟩
      rw [sE (256 * k + (i.val * 8 + j.val)) k _ _ rfl (by omega)]
      exact h _ (by omega)
  have e31 := pay31_apply (maxes (F := Ideal) x1 (k0_pay8 (F := Ideal) L) (qside x0) n) r
  rw [scale_eq, eight_bits] at e31
  generalize (Finset.univ.fold max (Ideal.ofBits .f32 0xFF800000#32) fun j : Fin 8 => maxes (F := Ideal) x1 (k0_pay8 (F := Ideal) L) (qside x0) n (ix2 j r)) = Mk at hk e31
  generalize k0_pay31 (F := Ideal) (maxes x1 (k0_pay8 (F := Ideal) L) (qside x0) n) = v at e31 ⊢
  generalize scoreC (F := Ideal) x1 (k0_pay8 (F := Ideal) L) (qside x0) = σ at sE ⊢
  have wE : ∀ (k i : ℕ) (hi : i < 256), k < n → k0_pay1 (F := Ideal) v (σ k) (ix2 (⟨i, hi⟩ : Fin 256) r) = Ideal.exp2 (msc K D len (256 * k + i) * (Cert.Attn.cs : EReal) - (Mk * (Cert.Attn.cs : EReal) - ((8 : ℝ) : EReal))) := by
    intro k i hi hk'
    rw [pay1_apply, sE (256 * k + i) k i hi rfl (by omega), scale_eq, e31]
  have c := Cert.Attn.core (sc K D) len n (fun p => x2 (ix4 (0 : Fin 1) (0 : Fin 1) d (pos p))) clipP clipP_zero hl1 hn hn2 Mk M hk hM
  rw [pay7_apply]
  refine Eq.trans (congrArg₂ (fun u v : EReal => u * Ideal.div 1 v) ?_ ?_) c
  · rw [prodsF_apply, Cert.Attn.sum_chunks]
    refine Finset.sum_congr rfl fun k hk' => ?_
    rw [Finset.sum_range]
    refine Finset.sum_congr rfl fun i _ => ?_
    refine congrArg₂ (fun u v : EReal => u * clipP v) rfl ?_
    exact wE k i.val i.isLt (Finset.mem_range.mp hk')
  · rw [Cert.Attn.sum_chunks]
    simp only [sumsF_apply]
    rw [Finset.sum_comm]
    refine Finset.sum_congr rfl fun k hk' => ?_
    rw [Cert.Attn.sum_rows (fun i => Ideal.exp2 ((if 256 * k + i < len then (sc K D (256 * k + i) : EReal) else ⊥) * (Cert.Attn.cs : EReal) - (Mk * (Cert.Attn.cs : EReal) - ((8 : ℝ) : EReal))))]
    refine Finset.sum_congr rfl fun j _ => Finset.sum_congr rfl fun i _ => ?_
    refine (wE k (i.val * 8 + j.val) _ (Finset.mem_range.mp hk')).trans ?_
    rw [Nat.mul_comm i.val 8]
    rfl

end Cert.KernelIdeal.Gen
end
-- ==== Proof.Value.RefOut.lean ====
/- The reference's attention at an index, as the quotient of sums the attention body's output is. -/
module

public import proofs.«01_k».proof.Proof.Value.RefAttn
public import proofs.«01_k».proof.Proof.Value.Chunks
public import proofs.«01_k».proof.Proof.Value.RScale

@[expose] public section

set_option maxRecDepth 65536

noncomputable section

namespace Cert.Attn

open Idealize.ShloMosaic

/-- A query's feature, coded and scaled back. -/
def dq (q : (⟨4, ![5, 56, 1024, 128]⟩ : Shape).Idx → EReal) (b : Fin 5) (g : Fin 56) (r : Fin 1024) (d : Fin 128) : EReal :=
  Cert.Scale.clip (q (ix4 b g r d) * Ideal.div (Ideal.ofBits .f32 0x3F800000#32) (Cert.Scale.rscale (Cert.Scale.amax q b g r ⟨d.val / 32, by omega⟩)))
    * Cert.Scale.rscale (Cert.Scale.amax q b g r ⟨d.val / 32, by omega⟩)

theorem bits448 : Ideal.ofBits .f32 0x43E00000#32 = ((448 : ℝ) : EReal) := by
  simp [Ideal.ofBits, Ideal.ieee]
  norm_num
  try (rw [← EReal.coe_mul]; norm_num)

theorem bits448n : Ideal.ofBits .f32 0xC3E00000#32 = ((-448 : ℝ) : EReal) := by
  simp [Ideal.ofBits, Ideal.ieee]
  norm_num
  try (rw [← EReal.coe_mul]; norm_num)

theorem bits128 : Ideal.ofBits .f32 0x43000000#32 = ((128 : ℝ) : EReal) := by
  simp [Ideal.ofBits, Ideal.ieee]
  norm_num
  try (rw [← EReal.coe_mul]; norm_num)

theorem bits256 : Ideal.ofBits .f32 0x43800000#32 = ((256 : ℝ) : EReal) := by
  simp [Ideal.ofBits, Ideal.ieee]
  norm_num
  try (rw [← EReal.coe_mul]; norm_num)

theorem bits256i : Ideal.ofBits .f32 0x3B800000#32 = ((1 / 256 : ℝ) : EReal) := by
  simp [Ideal.ofBits, Ideal.ieee]
  norm_num [zpow_neg]
  try (rw [← EReal.coe_mul]; norm_num)

theorem real_of_between {x : EReal} (a b : ℝ) (h1 : (a : EReal) ≤ x) (h2 : x ≤ (b : EReal)) : ∃ y : ℝ, x = (y : EReal) := by
  refine ⟨x.toReal, (EReal.coe_toReal ?_ ?_).symm⟩
  · rintro rfl; exact absurd h2 (not_le.mpr (EReal.coe_lt_top b))
  · rintro rfl; exact absurd h1 (not_le.mpr (EReal.bot_lt_coe a))

theorem clip_real (x : EReal) : ∃ y : ℝ, Cert.Scale.clip x = (y : EReal) := by
  refine real_of_between (-448) 448 ?_ ?_
  · unfold Cert.Scale.clip
    rw [bits448, bits448n]
    show _ ≤ min ((448 : ℝ) : EReal) (max ((-448 : ℝ) : EReal) x)
    exact le_min (EReal.coe_le_coe_iff.mpr (by norm_num)) (le_max_left _ _)
  · unfold Cert.Scale.clip
    rw [bits448, bits448n]
    show min ((448 : ℝ) : EReal) (max ((-448 : ℝ) : EReal) x) ≤ _
    exact min_le_left _ _

theorem abs_real {x : EReal} (h : FloatOps.absf (F := Ideal) (φ := .f32) x ≤ Ideal.ofBits .f32 0x7F7F0000#32) : ∃ y : ℝ, x = (y : EReal) := by
  rw [Cert.Scale.max_bits] at h
  have h' : max x (-x) ≤ ((255 * 2 ^ 120 : ℝ) : EReal) := h
  refine real_of_between (-(255 * 2 ^ 120)) (255 * 2 ^ 120) ?_ ((le_max_left _ _).trans h')
  rw [EReal.coe_neg]
  exact EReal.neg_le_of_neg_le ((le_max_right _ _).trans h')

theorem rscale_real {a : EReal} (h0 : 0 ≤ a) (h1 : a ≤ Ideal.ofBits .f32 0x7F7F0000#32) : ∃ y : ℝ, Cert.Scale.rscale a = (y : EReal) := by
  rw [Cert.Scale.rscale_eq h0 h1]
  have hc : (0 : ℝ) < 9586981 / 4294967296 := by norm_num
  rcases eq_or_lt_of_le h0 with h | h
  · subst h
    rw [zero_mul, Cert.Scale.kscale_zero]
    exact ⟨1, Cert.Scale.pw_one⟩
  · have ha : ∃ y : ℝ, a = (y : EReal) := by
      rw [Cert.Scale.max_bits] at h1
      exact real_of_between 0 _ h0 h1
    obtain ⟨y, rfl⟩ := ha
    rw [Cert.Scale.max_bits, EReal.coe_le_coe_iff] at h1
    have hy : 0 < y := EReal.coe_pos.mp h
    rw [Cert.Scale.c_bits, ← EReal.coe_mul]
    obtain ⟨n, n1, n2, e, -, -⟩ := Cert.Scale.kscale_spec (y := ((y * (9586981 / 4294967296) : ℝ) : EReal)) (EReal.coe_pos.mpr (mul_pos hy hc)) (by
      rw [Cert.Scale.pw_eq 254 (by norm_num) (by norm_num), EReal.coe_lt_coe_iff]
      have : y * (9586981 / 4294967296) ≤ 255 * 2 ^ 120 * (9586981 / 4294967296) := mul_le_mul_of_nonneg_right h1 hc.le
      refine this.trans_lt ?_
      norm_num)
    rw [e, Cert.Scale.pw_eq n n1 n2]
    exact ⟨_, rfl⟩

/-- Such a feature is a real number. -/
theorem dq_real (q : (⟨4, ![5, 56, 1024, 128]⟩ : Shape).Idx → EReal) (hq : ∀ i, FloatOps.absf (F := Ideal) (φ := .f32) (q i) ≤ Ideal.ofBits .f32 0x7F7F0000#32)
    (b : Fin 5) (g : Fin 56) (r : Fin 1024) (d : Fin 128) : ∃ y : ℝ, dq q b g r d = (y : EReal) := by
  unfold dq
  obtain ⟨u, hu⟩ := clip_real (q (ix4 b g r d) * Ideal.div (Ideal.ofBits .f32 0x3F800000#32) (Cert.Scale.rscale (Cert.Scale.amax q b g r ⟨d.val / 32, by omega⟩)))
  obtain ⟨v, hv⟩ := rscale_real (Cert.Scale.amax_nonneg q b g r ⟨d.val / 32, by omega⟩) (Cert.Scale.amax_le q b g r ⟨d.val / 32, by omega⟩ fun k => hq _)
  exact ⟨u * v, by rw [hu, hv, EReal.coe_mul]⟩

end Cert.Attn

namespace Cert.ReferenceIdeal.Value

open Idealize.ShloMosaic Idealize.ShloMosaic.TcCoe
open Cert.ReferenceIdeal.Facts₀ Cert.ReferenceIdeal.Facts
open Cert.KernelIdeal.Gen (pos sc clipP coe_sumF)

/-- The query row of a tile's row among the rows of its key head. -/
def qrow (g : Fin 56) (r : Fin 1024) : Fin 14336 := ⟨g.val % 14 * 1024 + r.val, by omega⟩
/-- The key head of a tile. -/
def khead (g : Fin 56) : Fin 4 := ⟨g.val / 14, by omega⟩

theorem deq_apply (q : FVec Ideal S5x56x1024x128 .bf16) (b : Fin 5) (g : Fin 56) (r : Fin 1024) (d : Fin 128) :
    deqs (clipped (shapeCast S5x28x2048x4x32 q shapeCasts_S5x56x1024x128_S5x28x2048x4x32) (refs q)) (refs q) (ix4 b (khead g) (qrow g r) d) = Cert.Attn.dq q b g r d := by
  have f1 : (⟨(khead g).val * 7 + (qrow g r).val / 2048, by have := (khead g).isLt; have := (qrow g r).isLt; omega⟩ : Fin 28) = ⟨g.val / 2, by omega⟩ :=
    Fin.ext (by show g.val / 14 * 7 + (g.val % 14 * 1024 + r.val) / 2048 = g.val / 2; omega)
  have f2 : (⟨(qrow g r).val % 2048, by omega⟩ : Fin 2048) = ⟨g.val % 2 * 1024 + r.val, by omega⟩ :=
    Fin.ext (by show (g.val % 14 * 1024 + r.val) % 2048 = g.val % 2 * 1024 + r.val; omega)
  refine (deqs_apply _ _ b (khead g) (qrow g r) d).trans ?_
  rw [f1, f2]
  refine congrArg₂ (fun u v : EReal => u * v) ?_ ?_
  · refine Eq.trans ?_ (refc_apply q b g r d)
    unfold refc
    exact (uncast_apply _ b g r d).symm
  · refine (refv_refs q b _ _ _).symm.trans ((refv_apply q b _ _ _).trans ?_)
    have e1 : (⟨g.val / 2 * 2 + (g.val % 2 * 1024 + r.val) / 1024, by omega⟩ : Fin 56) = g :=
      Fin.ext (by show g.val / 2 * 2 + (g.val % 2 * 1024 + r.val) / 1024 = _; omega)
    have e2 : (⟨(g.val % 2 * 1024 + r.val) % 1024, by omega⟩ : Fin 1024) = r :=
      Fin.ext (by show (g.val % 2 * 1024 + r.val) % 1024 = _; omega)
    exact congrArg₂ (fun g' r' => Cert.Scale.rscale (Cert.Scale.amax q b g' r' ⟨d.val / 32, by omega⟩)) e1 e2

/-- A masked score of the reference. -/
theorem refm_apply (q : FVec Ideal S5x56x1024x128 .bf16) (k : FVec Ideal S5x4x6144x128 .bf16) (l : IVec S5 32) (b : Fin 5) (g : Fin 56) (r : Fin 1024)
    (len : ℕ) (hL : (l (ix1 b) : BitVec 32).toInt = (len : ℤ)) (K : Fin 6144 → Fin 128 → ℝ) (D : Fin 128 → ℝ)
    (hK : ∀ p d, k (ix4 b (khead g) p d) = (K p d : EReal)) (hD : ∀ d, Cert.Attn.dq q b g r d = (D d : EReal)) (p : Fin 6144) :
    refm q k l (ix4 b (khead g) (qrow g r) p) = if p.val < len then ((sc K D p.val * Cert.Attn.rs : ℝ) : EReal) else ⊥ := by
  unfold refm
  have hs : scrs (deqs (clipped (shapeCast S5x28x2048x4x32 q shapeCasts_S5x56x1024x128_S5x28x2048x4x32) (refs q)) (refs q)) k (ix4 b (khead g) (qrow g r) p) = ((sc K D p.val : ℝ) : EReal) := by
    rw [scrs_apply]
    unfold sc
    rw [coe_sumF]
    refine Finset.sum_congr rfl fun d _ => ?_
    have ep : pos p.val = p := Fin.ext (Nat.mod_eq_of_lt p.isLt)
    rw [deq_apply, hK, hD, ep, mul_comm, EReal.coe_mul]
  rw [msks_apply, hs]
  have hp := p.isLt
  have ek : (BitVec.ofNat 32 p.val).toInt = (p.val : ℤ) := by
    have hn : (BitVec.ofNat 32 p.val).toNat = p.val := by rw [BitVec.toNat_ofNat]; omega
    rw [BitVec.toInt_eq_toNat_of_lt (by omega), hn]
  have e' : IntOp.cmpi CmpIPredicate.slt (BitVec.ofNat 32 p.val) (l (ix1 b)) = BitVec.ofBool (decide (p.val < len)) := by
    show BitVec.ofBool ((BitVec.ofNat 32 p.val).slt (l (ix1 b))) = _
    rw [BitVec.slt, ek, hL]
    simp
  rw [e', Cert.KernelIdeal.Gen.ninf_bits, Cert.Attn.bits128, Ideal.sqrt_coe, if_neg (by norm_num), Ideal.div_coe (by positivity), one_div, ← EReal.coe_mul]
  by_cases h : p.val < len
  · rw [if_pos h]; simp [h, Scalar.select, Cert.Attn.rs]
  · rw [if_neg h]; simp [h, Scalar.select]

theorem sum_pos (f : ℕ → EReal) (F : Fin 6144 → EReal) (h : ∀ p : Fin 6144, F p = f p.val) : ∑ p, F p = ∑ p ∈ Finset.range 6144, f p := by
  rw [Finset.sum_range]
  exact Finset.sum_congr rfl fun p _ => h p

/-- The reference's attention at an index. -/
theorem refo_apply (q : FVec Ideal S5x56x1024x128 .bf16) (k : FVec Ideal S5x4x6144x128 .bf16) (v : FVec Ideal S5x4x128x6144 .bf16) (l : IVec S5 32) (b : Fin 5) (g : Fin 56) (r : Fin 1024) (d : Fin 128)
    (len : ℕ) (hL : (l (ix1 b) : BitVec 32).toInt = (len : ℤ)) (K : Fin 6144 → Fin 128 → ℝ) (D : Fin 128 → ℝ)
    (hK : ∀ p d, k (ix4 b (khead g) p d) = (K p d : EReal)) (hD : ∀ d, Cert.Attn.dq q b g r d = (D d : EReal)) :
    ∃ M : EReal, (∀ u, M ≤ u ↔ ∀ p < 6144, (if p < len then ((sc K D p * Cert.Attn.rs : ℝ) : EReal) else ⊥) ≤ u)
      ∧ refo q k v l (ix4 b g r d) = Ideal.div ((∑ p ∈ Finset.range 6144, clipP (Ideal.exp ((if p < len then ((sc K D p * Cert.Attn.rs : ℝ) : EReal) else ⊥) - M) * ((256 : ℝ) : EReal)) * v (ix4 b (khead g) d (pos p))) * (((1 / 256 : ℝ)) : EReal))
      (∑ p ∈ Finset.range 6144, Ideal.exp ((if p < len then ((sc K D p * Cert.Attn.rs : ℝ) : EReal) else ⊥) - M)) := by
  have hm := refm_apply q k l b g r len hL K D hK hD
  refine ⟨tops (refm q k l) (ix3 b (khead g) (qrow g r)), ?_, ?_⟩
  · intro u
    rw [tops_apply, Finset.fold_max_le, Cert.KernelIdeal.Gen.ninf_bits]
    constructor
    · rintro ⟨-, h⟩ p hp
      have := h ⟨p, hp⟩ (Finset.mem_univ _)
      rwa [hm] at this
    · intro h
      refine ⟨bot_le, fun p _ => ?_⟩
      rw [hm]
      exact h p.val p.isLt
  · unfold refo
    generalize refm q k l = s at hm ⊢
    generalize tops s = t
    refine (outs_apply _ _ b g r d).trans ?_
    have hw : ∀ p : Fin 6144, wgts s t (ix4 b (khead g) (qrow g r) p) = Ideal.exp ((if p.val < len then ((sc K D p.val * Cert.Attn.rs : ℝ) : EReal) else ⊥) - t (ix3 b (khead g) (qrow g r))) := fun p => by
      rw [wgts_apply, hm]
    generalize wgts s t = w at hw ⊢
    rw [Cert.Attn.bits256i]
    refine congrArg₂ (fun u v : EReal => Ideal.div (u * ((1 / 256 : ℝ) : EReal)) v) ?_ ?_
    · refine (vals_apply _ _ b (khead g) (qrow g r) d).trans (sum_pos _ _ fun p => ?_)
      have ep : pos p.val = p := Fin.ext (Nat.mod_eq_of_lt p.isLt)
      rw [cods_apply, hw, Cert.Attn.bits256, ep]
      rfl
    · refine (tots_apply _ b (khead g) (qrow g r)).trans (sum_pos _ _ fun p => ?_)
      exact hw p

end Cert.ReferenceIdeal.Value
end
-- ==== Proof.Value.Tile.lean ====
/- A tile's codes and scales are the reference's. -/
module

public import proofs.«01_k».proof.Proof.Value.Block

@[expose] public section

set_option maxRecDepth 65536

noncomputable section

namespace Cert.KernelIdeal.Gen

open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The scales of a tile that is the part `(b, g)` of `Q`. -/
theorem qs_of (x : Vec Ideal S1x1x1024x128 .bf16) (Q : S5x56x1024x128.Idx → EReal) (b : Fin 5) (g : Fin 56)
    (hx : ∀ (r : Fin 1024) (k : Fin 128), x (ix4 (0 : Fin 1) (0 : Fin 1) r k) = Q (ix4 b g r k))
    (hq : ∀ i, FloatOps.absf (F := Ideal) (φ := .f32) (Q i) ≤ Ideal.ofBits .f32 0x7F7F0000#32) (n : Fin 4) (r : Fin 1024) :
    qsOf (F := Ideal) x (ix4 (0 : Fin 1) (0 : Fin 1) n r) = Cert.Scale.rscale (Cert.Scale.amax Q b g r n) := by
  unfold qsOf
  refine (pay22_apply _ n r).trans ((scale_apply x (ix2 n r)).trans ?_)
  rw [pay11_apply]
  rw [Cert.Scale.rscale_eq (Cert.Scale.amax_nonneg _ _ _ _ _) (Cert.Scale.amax_le _ _ _ _ _ fun k => hq _)]
  refine congrArg (fun a : EReal => Cert.Scale.kscale (a * Ideal.ofBits .f32 0x3B124925#32)) ?_
  unfold Cert.Scale.amax
  refine congrArg (fun f : Fin 32 → EReal => Finset.univ.fold max (Ideal.ofBits .f32 0xFF800000#32) f) (funext fun k => ?_)
  exact congrArg (FloatOps.absf (F := Ideal) (φ := .f32)) (hx r _)

/-- The largest absolute value of a block over 448, of a tile that is the part `(b, g)` of `Q`. -/
theorem top_of (x : Vec Ideal S1x1x1024x128 .bf16) (Q : S5x56x1024x128.Idx → EReal) (b : Fin 5) (g : Fin 56)
    (hx : ∀ (r : Fin 1024) (k : Fin 128), x (ix4 (0 : Fin 1) (0 : Fin 1) r k) = Q (ix4 b g r k)) (n : Fin 4) (r : Fin 1024) :
    k0_pay11 (F := Ideal) x (ix2 n r) = Cert.Scale.amax Q b g r n * Ideal.ofBits .f32 0x3B124925#32 := by
  rw [pay11_apply]
  refine congrArg (fun a : EReal => a * Ideal.ofBits .f32 0x3B124925#32) ?_
  unfold Cert.Scale.amax
  refine congrArg (fun f : Fin 32 → EReal => Finset.univ.fold max (Ideal.ofBits .f32 0xFF800000#32) f) (funext fun k => ?_)
  exact congrArg (FloatOps.absf (F := Ideal) (φ := .f32)) (hx r _)

/-- The codes of a tile that is the part `(b, g)` of `Q`. -/
theorem qc_of (x : Vec Ideal S1x1x1024x128 .bf16) (Q : S5x56x1024x128.Idx → EReal) (b : Fin 5) (g : Fin 56)
    (hx : ∀ (r : Fin 1024) (k : Fin 128), x (ix4 (0 : Fin 1) (0 : Fin 1) r k) = Q (ix4 b g r k))
    (hq : ∀ i, FloatOps.absf (F := Ideal) (φ := .f32) (Q i) ≤ Ideal.ofBits .f32 0x7F7F0000#32) (r : Fin 1024) (d : Fin 128) :
    qcOf (F := Ideal) x (ix4 (0 : Fin 1) (0 : Fin 1) r d)
      = Cert.Scale.clip (Q (ix4 b g r d) * Ideal.div (Ideal.ofBits .f32 0x3F800000#32) (Cert.Scale.rscale (Cert.Scale.amax Q b g r ⟨d.val / 32, by omega⟩))) := by
  unfold qcOf
  have e81 : v81Of x = addi (v79Of x) (broadcast S4x1024 1#32) := rfl
  refine (pay21_apply _ r d).trans ((pay20_apply _ _ _ _ _ r d).trans ?_)
  rw [e81]
  refine (pay18_apply _ _ _ _ _ r).trans ?_
  refine congrArg₂ (fun u v : EReal => Cert.Scale.clip (u * v)) ((pay10_apply x d r).trans (hx r d)) ?_
  rw [Cert.Scale.rscale_inv (Cert.Scale.amax_nonneg _ _ _ _ _) (Cert.Scale.amax_le _ _ _ _ _ fun k => hq _)]
  exact (invs_apply x _).trans (congrArg Cert.Scale.kinv (top_of x Q b g hx _ r))

/-- An index of a tile of codes has two free coordinates. -/
theorem ix_codes (y : S1x1x1024x128.Idx) : ∃ (r : Fin 1024) (d : Fin 128), y = ix4 (0 : Fin 1) (0 : Fin 1) r d :=
  ⟨y 2, y 3, by blk_ext⟩

/-- An index of a tile of scales has two free coordinates. -/
theorem ix_tile (y : S1x1x4x1024.Idx) : ∃ (n : Fin 4) (r : Fin 1024), y = ix4 (0 : Fin 1) (0 : Fin 1) n r :=
  ⟨y 2, y 3, by blk_ext⟩

end Cert.KernelIdeal.Gen
end
-- ==== Proof.Value.Same.lean ====
/- The attention body's output of a tile is the reference's. -/
module

public import proofs.«01_k».proof.Proof.Value.RefOut
public import proofs.«01_k».proof.Proof.Value.Tile

@[expose] public section

set_option maxRecDepth 65536

noncomputable section

namespace Cert.KernelIdeal.Gen

open Idealize.ShloMosaic Idealize.ShloMosaic.TcCoe
open Cert.ReferenceIdeal.Value (khead refo)

/-- The dequantised queries of a tile that is the part `(b, g)` of `Q`. -/
theorem deq_of (x : Vec Ideal S1x1x1024x128 .bf16) (Q : S5x56x1024x128.Idx → EReal) (b : Fin 5) (g : Fin 56)
    (hx : ∀ (r : Fin 1024) (k : Fin 128), x (ix4 (0 : Fin 1) (0 : Fin 1) r k) = Q (ix4 b g r k))
    (hq : ∀ i, FloatOps.absf (F := Ideal) (φ := .f32) (Q i) ≤ Ideal.ofBits .f32 0x7F7F0000#32) (d : Fin 128) (r : Fin 1024) :
    deqOf (F := Ideal) x (ix2 d r) = Cert.Attn.dq Q b g r d := by
  unfold deqOf Cert.Attn.dq
  have e81 : v81Of x = addi (v79Of x) (broadcast S4x1024 1#32) := rfl
  refine (pay23_apply _ d r).trans ((pay19_apply _ _ _ _ _ d r).trans ?_)
  refine congrArg₂ (fun u v : EReal => u * v) ?_ ?_
  · rw [e81]
    refine (pay18_apply _ _ _ _ _ r).trans ?_
    refine congrArg₂ (fun u v : EReal => Cert.Scale.clip (u * v)) ((pay10_apply x d r).trans (hx r d)) ?_
    rw [Cert.Scale.rscale_inv (Cert.Scale.amax_nonneg _ _ _ _ _) (Cert.Scale.amax_le _ _ _ _ _ fun k => hq _)]
    exact (invs_apply x _).trans (congrArg Cert.Scale.kinv (top_of x Q b g hx _ r))
  · refine (scale_apply x (ix2 (⟨d.val / 32, by omega⟩ : Fin 4) r)).trans ?_
    rw [top_of x Q b g hx]
    exact (Cert.Scale.rscale_eq (Cert.Scale.amax_nonneg _ _ _ _ _) (Cert.Scale.amax_le _ _ _ _ _ fun k => hq _)).symm

/-- The output of a tile, against the reference. -/
theorem out_ref (x0 : Vec Ideal S1x1x1024x128 .bf16) (x1 : Vec Ideal S1x1x6144x128 .bf16) (x2 : Vec Ideal S1x1x128x6144 .bf16) (L : BitVec 32)
    (Q : S5x56x1024x128.Idx → EReal) (Kk : S5x4x6144x128.Idx → EReal) (Vv : S5x4x128x6144.Idx → EReal) (l : S5.Idx → BitVec 32) (b : Fin 5) (g : Fin 56)
    (hx : ∀ (r : Fin 1024) (k : Fin 128), x0 (ix4 (0 : Fin 1) (0 : Fin 1) r k) = Q (ix4 b g r k))
    (hx1 : ∀ (p : Fin 6144) (d : Fin 128), x1 (ix4 (0 : Fin 1) (0 : Fin 1) p d) = Kk (ix4 b (khead g) p d))
    (hx2 : ∀ (d : Fin 128) (p : Fin 6144), x2 (ix4 (0 : Fin 1) (0 : Fin 1) d p) = Vv (ix4 b (khead g) d p))
    (hl : L = l (ix1 b)) (hl1 : 1 ≤ L.toInt) (hl2 : L.toInt ≤ 6144)
    (hq : ∀ i, FloatOps.absf (F := Ideal) (φ := .f32) (Q i) ≤ Ideal.ofBits .f32 0x7F7F0000#32)
    (hk : ∀ i, FloatOps.absf (F := Ideal) (φ := .f32) (Kk i) ≤ Ideal.ofBits .f32 0x7F7F0000#32) (r : Fin 1024) (d : Fin 128) :
    outOf (F := Ideal) x1 x2 (k0_pay8 (F := Ideal) L) (qside x0) (chunks L) (ix4 (0 : Fin 1) (0 : Fin 1) r d) = refo Q Kk Vv l (ix4 b g r d) := by
  have hK : ∃ K : Fin 6144 → Fin 128 → ℝ, ∀ p d, Kk (ix4 b (khead g) p d) = (K p d : EReal) := by
    choose K hK using fun (p : Fin 6144) (d : Fin 128) => Cert.Attn.abs_real (hk (ix4 b (khead g) p d))
    exact ⟨K, hK⟩
  obtain ⟨K, hK⟩ := hK
  have hD : ∃ D : Fin 128 → ℝ, ∀ d, Cert.Attn.dq Q b g r d = (D d : EReal) := by
    choose D hD using fun (d : Fin 128) => Cert.Attn.dq_real Q hq b g r d
    exact ⟨D, hD⟩
  obtain ⟨D, hD⟩ := hD
  obtain ⟨len, hL⟩ : ∃ len : ℕ, L.toInt = (len : ℤ) := ⟨L.toInt.toNat, by omega⟩
  obtain ⟨M, hM, e⟩ := Cert.ReferenceIdeal.Value.refo_apply Q Kk Vv l b g r d len (hl ▸ hL) K D hK hD
  rw [e, out_core x0 x1 x2 L len hL (by omega) (by omega) K D r d (fun p d => (hx1 p d).trans (hK p d)) (fun d => (deq_of x0 Q b g hx hq d r).trans (hD d)) M hM]
  refine congrArg₂ (fun u v : EReal => Ideal.div (u * ((1 / 256 : ℝ) : EReal)) v) (Finset.sum_congr rfl fun p _ => ?_) rfl
  rw [hx2]

end Cert.KernelIdeal.Gen
end
-- ==== Proof.KernelIdeal.RunW.lean ====
/- The attention body run once at a grid point, with the attention output it leaves. -/
module

public import proofs.«01_k».proof.Proof.KernelIdeal.RunV
public import Idealize.ShloMosaic.Lib.ValueIdxCore
public import Idealize.ShloMosaic.Lib.WritesUnit
public import proofs.«01_k».proof.Proof.Gen.KernelIdeal.Loops
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

theorem one_pos : 0 < S1.numel := by decide
/-- The length the body reads at its grid point. -/
def lenAt (c : Dev nD) (i : grid0.Coords) (xt0 : TbBuf0 (F := F) c tbM0_0) : BitVec 32 :=
  (tbM0_0.view.readAt (Elt F) (Rect.unit (s := S5) (k0_off1 i) S1.size (k0_off1_inb i)).toLoadRect xt0) (Shape.Idx.first one_pos)

/-- From filled scores, what the second loop leaves is the output tile. -/
theorem out_of {v1 w1 : BitVec 32} {y1 x1 : Vec F S1x1x6144x128 .bf16} {y2 x2 : Vec F S1x1x128x6144 .bf16} {b a : Vec F S6144x128 .bf16} {p q : Vec F S256x1024 .bf16} {s : Vec F S6144x1024 .f32}
    (h : Filled y1 b p (chunks v1) s) (hv : v1 = w1) (h1 : y1 = x1) (h2 : y2 = x2) (ha : b = a) (hq : p = q) :
    k0_pay7 (sums s (k0_pay31 (maxes y1 b p (k0_t1_loop v1).trips)) (chunks v1)) (prods s y2 (k0_pay31 (maxes y1 b p (k0_t1_loop v1).trips)) (chunks v1))
      = outOf x1 x2 a q (chunks w1) := by
  subst hv h1 h2 ha hq
  rw [sums_eq s (scoreC y1 b p) _ _ h, prods_eq s (scoreC y1 b p) _ _ _ h]
  rfl

set_option sl_exec.maxSteps 26 in
set_option maxHeartbeats 1600000 in
/-- The body at a grid point whose first branch is taken, with what it leaves in the outputs and the scratch. -/
theorem run_firstV (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : cond0_0 i)
    (x0 : Vec F S1x1x1024x128 .bf16) (x1 : Vec F S1x1x6144x128 .bf16) (x2 : Vec F S1x1x128x6144 .bf16) (xt0 : TbBuf0 (F := F) c tbM0_0)
    (hw : ∀ y, k0_chk1 (tbM0_0.view.read (Elt F) xt0 y)) (hle : ∀ y, (tbM0_0.view.read (Elt F) xt0 y).toInt ≤ 6144) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare (outOf x1 x2 (k0_pay8 (lenAt c i xt0)) (qside x0) (chunks (lenAt c i xt0))) ∗ owns (c : Thread nD τ) arg7 fullShare (qcOf x0) ∗ owns (c : Thread nD τ) arg8 fullShare (qsOf x0) ∗ owns (c : Thread nD τ) arg9 fullShare (qside x0) ∗ (∃ d, owns (c : Thread nD τ) arg10 fullShare d) ∗ owns (c : Thread nD τ) arg11 fullShare (k0_pay8 (lenAt c i xt0)) ∗ (∃ d, owns (c : Thread nD τ) arg12 fullShare d) ∗ tbPt0 c tbM0_0 xt0) -∗ K ⟨⟩))
          ⊢ wp Idealize.ShloMosaic.frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := sl_exact hc0)
    iapply (run_mid c i arg3 harg3 arg4 harg4 arg5 harg5 arg6 harg6 arg7 harg7 arg8 harg8 arg9 harg9 arg10 harg10 arg11 harg11 arg12 harg12 _ _ _ _ _ _ _ _ _ (hle _) _ _ _ E _)
    isplitl [H1]; · iexact H1
    isplitl [HS0]; · iexact HS0
    isplitl [HS2]; · iexact HS2
    isplitl [HS1]; · iexact HS1
    isplitl [HS3]; · iexact HS3
    iintro ⟨%g10, %g12, %hg, H1, HS0, HS2, HS1, HS3⟩
    obtain ⟨hfill, hz⟩ := hg
    iapply (run_tailV c i arg3 harg3 arg4 harg4 arg5 harg5 arg6 harg6 arg7 harg7 arg8 harg8 arg9 harg9 arg10 harg10 arg11 harg11 arg12 harg12 _ _ _ _ _ (hle _) g12 hz _ E K)
    isplitl [H2]; · iexact H2
    isplitl [HS1]; · iexact HS1
    isplitl [HS3]; · iexact HS3
    isplitl [H3]; · iexact H3
    iintro ⟨H2, HS1, ⟨%g12', HS3⟩, ⟨%g6, %hg6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      rw [hg6]
      refine out_of hfill ?_ (harg4.read_unread _) (harg5.read_unread _) ?_ ?_
      · sl_unfold_run_names; rfl
      · sl_unfold_run_names; exact (View.read_writes_full ..)
      · sl_unfold_run_names; rw [read_query]; exact qside_of _ _ _ x0 (low_of _ _ _) _
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _; isplitr; swap; · iexact HS0
      ipureintro
      sl_unfold_run_names; rw [read_query]; exact qside_of _ _ _ x0 (low_of _ _ _) _
    isplitl [HS1]
    · iexists _, _; isplitr; swap; · iexact HS1
      ipureintro; rfl
    isplitl [HS2]
    · iexists _; isplitr; swap; · iexact HS2
      ipureintro
      sl_unfold_run_names; exact (View.read_writes_full ..)
    isplitl [HS3]
    · iexists _, _; isplitr; swap; · iexact HS3
      ipureintro; rfl
    iexact HT0

set_option sl_exec.maxSteps 20 in
set_option maxHeartbeats 1600000 in
/-- The body at a grid point whose first branch is not taken, with what it leaves in the outputs and the scratch. -/
theorem run_laterV (c : Dev nD) (i : grid0.Coords) (arg3 : Memref sig .tc .vmem S1x1x1024x128 .bf16) (harg3 : arg3.IsWhole) (arg4 : Memref sig .tc .vmem S1x1x6144x128 .bf16) (harg4 : arg4.IsWhole) (arg5 : Memref sig .tc .vmem S1x1x128x6144 .bf16) (harg5 : arg5.IsWhole) (arg6 : Memref sig .tc .vmem S1x1x1024x128 .bf16) (harg6 : arg6.IsWhole) (arg7 : Memref sig .tc .vmem S1x1x1024x128 .fp8e4m3) (harg7 : arg7.IsWhole) (arg8 : Memref sig .tc .vmem S1x1x4x1024 .f32) (harg8 : arg8.IsWhole) (arg9 : Memref sig .tc .vmem S256x1024 .bf16) (harg9 : arg9.IsWhole) (arg10 : Memref sig .tc .vmem S6144x1024 .f32) (harg10 : arg10.IsWhole) (arg11 : Memref sig .tc .vmem S6144x128 .bf16) (harg11 : arg11.IsWhole) (arg12 : Memref sig .tc .vmem S128x1024 .f32) (harg12 : arg12.IsWhole) (hc0 : ¬cond0_0 i)
    (x0 : Vec F S1x1x1024x128 .bf16) (x1 : Vec F S1x1x6144x128 .bf16) (x2 : Vec F S1x1x128x6144 .bf16) (xt0 : TbBuf0 (F := F) c tbM0_0)
    (q : Vec F S256x1024 .bf16) (hq : Low q) (a : Vec F S6144x128 .bf16)
    (hw : ∀ y, k0_chk1 (tbM0_0.view.read (Elt F) xt0 y)) (hle : ∀ y, (tbM0_0.view.read (Elt F) xt0 y).toInt ≤ 6144) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare q ∗ (∃ d, owns (c : Thread nD τ) arg10 fullShare d) ∗ owns (c : Thread nD τ) arg11 fullShare a ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare (outOf x1 x2 a (qside x0) (chunks (lenAt c i xt0))) ∗ owns (c : Thread nD τ) arg7 fullShare (qcOf x0) ∗ owns (c : Thread nD τ) arg8 fullShare (qsOf x0) ∗ owns (c : Thread nD τ) arg9 fullShare (qside x0) ∗ (∃ d, owns (c : Thread nD τ) arg10 fullShare d) ∗ owns (c : Thread nD τ) arg11 fullShare a ∗ (∃ d, owns (c : Thread nD τ) arg12 fullShare d) ∗ tbPt0 c tbM0_0 xt0) -∗ K ⟨⟩))
          ⊢ wp Idealize.ShloMosaic.frame (wpE (defs₀ (F := F)) Variants.none c none) E (cc0_mxfp8_attention i tbM0_0 htbM0_0 arg3 harg3 arg4 harg4 arg5 harg5 arg6 harg6 arg7 harg7 arg8 harg8 arg9 harg9 arg10 harg10 arg11 harg11 arg12 harg12) K := by
    simp only [cc0_mxfp8_attention_eq_skeleton]; unfold cc0_mxfp8_attention_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%ds3, %fs3, -, HS3⟩, HT0, Hk⟩
    obtain rfl := harg3.eq_unread hf0; obtain rfl := harg4.eq_unread hf1; obtain rfl := harg5.eq_unread hf2
    obtain rfl := harg9.eq_unread hfs0; obtain rfl := harg11.eq_unread hfs2
    sl_exec (disch := sl_exact hc0)
    iapply (run_mid c i arg3 harg3 arg4 harg4 arg5 harg5 arg6 harg6 arg7 harg7 arg8 harg8 arg9 harg9 arg10 harg10 arg11 harg11 arg12 harg12 _ _ _ _ _ _ _ _ _ (hle _) _ _ _ E _)
    isplitl [H1]; · iexact H1
    isplitl [HS0]; · iexact HS0
    isplitl [HS2]; · iexact HS2
    isplitl [HS1]; · iexact HS1
    isplitl [HS3]; · iexact HS3
    iintro ⟨%g10, %g12, %hg, H1, HS0, HS2, HS1, HS3⟩
    obtain ⟨hfill, hz⟩ := hg
    iapply (run_tailV c i arg3 harg3 arg4 harg4 arg5 harg5 arg6 harg6 arg7 harg7 arg8 harg8 arg9 harg9 arg10 harg10 arg11 harg11 arg12 harg12 _ _ _ _ _ (hle _) g12 hz _ E K)
    isplitl [H2]; · iexact H2
    isplitl [HS1]; · iexact HS1
    isplitl [HS3]; · iexact HS3
    isplitl [H3]; · iexact H3
    iintro ⟨H2, HS1, ⟨%g12', HS3⟩, ⟨%g6, %hg6, H3⟩⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      rw [hg6]
      refine out_of hfill ?_ (harg4.read_unread _) (harg5.read_unread _) ?_ ?_
      · sl_unfold_run_names; rfl
      · exact harg11.read_unread _
      · sl_unfold_run_names; rw [read_query]; exact qside_of _ _ [] x0 (by rw [View.writes_nil, harg9.read_unread]; exact hq) _
    isplitl [H4]
    · iexists _; isplitr; swap; · iexact H4
      ipureintro
      sl_unfold_run_names
      rw [View.read_writes_full, read_query]
      rfl
    isplitl [H5]
    · iexists _; isplitr; swap; · iexact H5
      ipureintro
      sl_unfold_run_names
      rw [View.read_writes_full, read_query]
      rfl
    isplitl [HS0]
    · iexists _; isplitr; swap; · iexact HS0
      ipureintro
      sl_unfold_run_names; rw [read_query]; exact qside_of _ _ [] x0 (by rw [View.writes_nil, harg9.read_unread]; exact hq) _
    isplitl [HS1]
    · iexists _, _; isplitr; swap; · iexact HS1
      ipureintro; rfl
    isplitl [HS2]
    · iexists _; isplitr; swap; · iexact HS2
      ipureintro
      exact harg11.read_unread _
    isplitl [HS3]
    · iexists _, _; isplitr; swap; · iexact HS3
      ipureintro; rfl
    iexact HT0

end Cert.KernelIdeal.Gen

end
-- ==== Proof.KernelIdeal.FrameV.lean ====
/- The attention call with all three outputs named: its pipeline's proof data, the body at every grid point, the run. -/
module

public import proofs.«01_k».proof.Proof.KernelIdeal.RunW
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every prefetched length is at most the number of keys. -/
def TblLe : Prop := ∀ y, (tbM0_0.view.read (Elt F) (tbl m 0) y).toInt ≤ 6144

theorem TblLe.ok (h : TblLe m) : TblOk m := fun y => chk_of_le _ (h y)

/-- The length of the batch entry of point `t`. -/
def lenN (t : ℕ) : BitVec 32 := tbM0_0.view.read (Elt F) (tbl m 0) (ValueIdx.ix1 (⟨t / 56 % 5, Nat.mod_lt _ (by decide)⟩ : Fin 5))

theorem coord0 (t : Fin grid0.N) : (grid0.coords t 0).val = t.val / 56 % 5 := Pipeline.Grid.coords_val t 0 (by decide) rfl

theorem lenAt_eq (hO : Ok m) (c : Dev nD) (t : Fin (cfgM m hO).N) : lenAt (F := F) c (grid0.coords t) (tbl m 0) = lenN m t.val := by
  unfold lenAt lenN
  refine congrArg (tbM0_0.view.read (Elt F) (tbl m 0)) (funext fun a => Fin.ext ?_)
  have e0 : (grid0.coords t 0).val = t.val / 56 % 5 := coord0 t
  match a with
  | ⟨0, _⟩ =>
    show (BitVec.ofNat 32 (grid0.coords t 0).val).toNat + 1 * 0 = t.val / 56 % 5
    rw [e0, BitVec.toNat_ofNat]
    omega

theorem lenN_succ (t : ℕ) (h : (t + 1) % 56 ≠ 0) : lenN (F := F) m (t + 1) = lenN m t := by
  unfold lenN
  exact congrArg (fun z : Fin 5 => tbM0_0.view.read (Elt F) (tbl m 0) (ValueIdx.ix1 z)) (Fin.ext (show (t + 1) / 56 % 5 = t / 56 % 5 by omega))

/-- The scratch before point `t`: past the first point of a batch entry the mask rows are the entry's and the lower half of
    the query side is in place. -/
def Scratch (c : Dev nD) (t : ℕ) : sProp 𝕄 :=
  iprop(iprop((∃ d, ⌜t % 56 ≠ 0 → Low d⌝ ∗ owns (c : Thread nD τ) scM0_0 fullShare d) ∗ (∃ d, owns (c : Thread nD τ) scM0_1 fullShare d)
    ∗ (∃ d, ⌜t % 56 ≠ 0 → d = k0_pay8 (F := F) (lenN m (t - 1))⌝ ∗ owns (c : Thread nD τ) scM0_2 fullShare d) ∗ (∃ d, owns (c : Thread nD τ) scM0_3 fullShare d)) ∗ (∃ r, prngReg c r))

/-- The attention output of point `t`. -/
def outAt (hO : Ok m) (c : Dev nD) (t : Fin (cfgM m hO).N) : Vec F S1x1x1024x128 .bf16 :=
  outOf (iblk m hO c 1 t) (iblk m hO c 2 t) (k0_pay8 (lenN m t.val)) (qside (iblk m hO c 0 t)) (chunks (lenN m t.val))

/-- No output window is forgotten. -/
def forgets1 : Fin 6 → Bool := fun _ => false

/-- The proof data of the pipeline on core `c`: each input's buffer at its block, the second output at the codes and the third
    at the scales of the query tile; the scratch buffers and the generator register at anything, the lengths' half held. -/
def datsV (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
    | ⟨4, _⟩ => qcOf (F := F) (iblk m hO c 0 t)
    | ⟨5, _⟩ => qsOf (F := F) (iblk m hO c 0 t)
  Φ t := iprop(Scratch m c t.val ∗ Pipeline.ΦT pre0 (tbl m) c)
  q _ := fullShare
  owed _ := 0

/-- The proof data's arrays are the region-entry contents. -/
theorem A_eqV (hO : Ok m) (c : Dev nD) (w : Fin (cfgM m hO).W) : (datsV m hO 0 c).A w = V m c (Pipeline.arrRef spec0 w) := by
  dsimp only [datsV]

/-- What the body leaves, window by window. -/
theorem after0_0V (hO : Ok m) (c : Dev nD) (t : Fin (cfgM m hO).N) : (datsV m hO 0 c).after 0 t = iblk m hO c 0 t := by dsimp only [datsV]; try rfl
theorem after0_1V (hO : Ok m) (c : Dev nD) (t : Fin (cfgM m hO).N) : (datsV m hO 0 c).after 1 t = iblk m hO c 1 t := by dsimp only [datsV]; try rfl
theorem after0_2V (hO : Ok m) (c : Dev nD) (t : Fin (cfgM m hO).N) : (datsV m hO 0 c).after 2 t = iblk m hO c 2 t := by dsimp only [datsV]; try rfl
theorem after0_3V (hO : Ok m) (c : Dev nD) (t : Fin (cfgM m hO).N) : (datsV m hO 0 c).after 3 t = outAt m hO c t := by dsimp only [datsV]; try rfl
theorem after0_4V (hO : Ok m) (c : Dev nD) (t : Fin (cfgM m hO).N) : (datsV m hO 0 c).after 4 t = qcOf (F := F) (iblk m hO c 0 t) := by dsimp only [datsV]; try rfl
theorem after0_5V (hO : Ok m) (c : Dev nD) (t : Fin (cfgM m hO).N) : (datsV m hO 0 c).after 5 t = qsOf (F := F) (iblk m hO c 0 t) := by dsimp only [datsV]; try rfl

/-- Each input's current staging buffer holds its block at every point. -/
theorem before0_0V (hO : Ok m) (c : Dev nD) (t : Fin (cfgM m hO).N) (d) : (datsV m hO 0 c).before 0 t d = iblk m hO c 0 t :=
  before0_0_of m hO (datsV m hO 0 c) (A_eqV m hO c 0) (after0_0V m hO c) t d
theorem before0_1V (hO : Ok m) (c : Dev nD) (t : Fin (cfgM m hO).N) (d) : (datsV m hO 0 c).before 1 t d = iblk m hO c 1 t :=
  before0_1_of m hO (datsV m hO 0 c) (A_eqV m hO c 1) (after0_1V m hO c) t d
theorem before0_2V (hO : Ok m) (c : Dev nD) (t : Fin (cfgM m hO).N) (d) : (datsV m hO 0 c).before 2 t d = iblk m hO c 2 t :=
  before0_2_of m hO (datsV m hO 0 c) (A_eqV m hO c 2) (after0_2V m hO c) t d

/-- The invariant of the pipeline's rounds. -/
theorem Phi_eq (hO : Ok m) (c : Dev nD) (t : Fin ((cfgM m hO).N + 1)) : (datsV m hO 0 c).Φ t = iprop(Scratch m c t.val ∗ Pipeline.ΦT pre0 (tbl m) c) := by
  dsimp only [datsV]

/-- What the body is called with at point `t`, -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d)))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t))

set_option maxHeartbeats 1600000 in
/-- The body at any point, by the run of the case the point is in. -/
theorem sound_bodyV (hO : Ok m) (hT : TblLe m) (c : Dev nD) (t : Fin (cfgM m hO).N) :
    bodyPreV m hO c t ⊢ wp Idealize.ShloMosaic.frame (wpE (defs₀ (F := F)) Variants.none c none) Set.univ (bodyAt0 (adm m hO) t) (fun _ => bodyPostV m hO c t) := by
  unfold bodyPreV bodyPostV bodyAt0
  simp only [before0_0V, before0_1V, before0_2V]
  rw [show (datsV m hO 0 c).owesAt () t.succ = (datsV m hO 0 c).owesAt () t.castSucc from rfl,
    after0_0V, after0_1V, after0_2V, after0_3V, after0_4V, after0_5V]
  rw [Phi_eq, Phi_eq, Fin.val_succ, Fin.val_castSucc, PhiT0_eq]
  unfold Scratch outAt
  rw [show t.val + 1 - 1 = t.val from Nat.add_sub_cancel .., ← lenAt_eq m hO c t]
  iintro ⟨⟨⟨⟨⟨%g0, %hg0, HS0⟩, HS1, ⟨%g2, %hg2, HS2⟩, HS3⟩, Hg⟩, HT0⟩, Ho, ⟨%d0, H0⟩, ⟨%d1, H1⟩, ⟨%d2, H2⟩, ⟨%d3, H3⟩, ⟨%d4, H4⟩, ⟨%d5, H5⟩⟩
  by_cases h0 : t.val % 56 = 0
  · iapply (run_firstV c (grid0.coords t) _ _ _ _ _ _ _ _ _ _ _ _ _ _ _ _ _ _ _ _ ((hcond0_0 t).mpr h0) (iblk m hO c 0 t) (iblk m hO c 1 t) (iblk m hO c 2 t) (tbl m 0) (TblLe.ok m hT) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    isplitl [HS1]; · iexact HS1
    isplitl [HS2]; · iexists _; iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]
          · iexists _; isplitr; swap; · iexact HS0
            ipureintro; intro _; exact low_qside _
          isplitl [HS1]; · iexact HS1
          isplitl [HS2]
          · iexists _; isplitr; swap; · iexact HS2
            ipureintro; intro _; rfl
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · have hl : lenN (F := F) m (t.val - 1) = lenAt (F := F) c (grid0.coords t) (tbl m 0) := by
      rw [lenAt_eq m hO c t]
      obtain ⟨n, hn⟩ : ∃ n, t.val = n + 1 := ⟨t.val - 1, by omega⟩
      rw [hn]; exact (lenN_succ m n (by omega)).symm
    have e2 := (hg2 h0).trans (congrArg (k0_pay8 (F := F)) hl)
    subst e2
    iapply (run_laterV c (grid0.coords t) _ _ _ _ _ _ _ _ _ _ _ _ _ _ _ _ _ _ _ _ (fun h => h0 ((hcond0_0 t).mp h)) (iblk m hO c 0 t) (iblk m hO c 1 t) (iblk m hO c 2 t) (tbl m 0) g0 (hg0 h0) _ (TblLe.ok m hT) hT Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HT0]; · iexact HT0
    iintro ⟨H0, H1, H2, H3, H4, H5, HS0, HS1, HS2, HS3, HT0⟩
    isplitl [HS0 HS1 HS2 HS3 Hg HT0]
    · isplitl [HS0 HS1 HS2 HS3 Hg]
      · isplitl [HS0 HS1 HS2 HS3]
        · isplitl [HS0]
          · iexists _; isplitr; swap; · iexact HS0
            ipureintro; intro _; exact low_qside _
          isplitl [HS1]; · iexact HS1
          isplitl [HS2]
          · iexists _; isplitr; swap; · iexact HS2
            ipureintro; intro _; rfl
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_rowV (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point. -/
theorem body_obligationV (hO : Ok m) (hT : TblLe m) (c : Dev nD) : BodyObligation (datsV (F := F) m hO 0 c) (defs₀ (F := F)) Variants.none () Set.univ forgets1 := fun t => by
  rw [bigSep_W0, bigSep_W0, defs₀_rowV m hO]
  exact triple_restated (sound_bodyV m hO hT c t) rfl .rfl fun _ => .rfl

/-- What the launch hands the region is the invariant before the first point. -/
theorem hinV (hO : Ok m) (c : Dev nD) : iprop(Pipeline.ΦA spec0 c ∗ Pipeline.ΦT pre0 (tbl m) c) ⊢ (datsV m hO 0 c).Φ 0 := by
  rw [Phi_eq, Fin.val_zero, PhiA0_eq]
  unfold Scratch
  iintro ⟨⟨⟨⟨%d0, HS0⟩, HS1, ⟨%d2, HS2⟩, HS3⟩, Hg⟩, HT⟩
  isplitr [HT]; swap; · iexact HT
  isplitr [Hg]; swap; · iexact Hg
  isplitl [HS0]
  · iexists _; isplitr; swap; · iexact HS0
    ipureintro; intro h; exact absurd rfl h
  isplitl [HS1]; · iexact HS1
  isplitl [HS2]
  · iexists _; isplitr; swap; · iexact HS2
    ipureintro; intro h; exact absurd rfl h
  iexact HS3

/-- After the last point the invariant gives the scoped rest back. -/
theorem houtV (hO : Ok m) (c : Dev nD) : (datsV m hO 0 c).Φ (Fin.last (cfgM m hO).N) ⊢ Pipeline.ΦA spec0 c := by
  rw [Phi_eq, PhiA0_eq]
  unfold Scratch
  iintro ⟨⟨⟨⟨%d0, -, HS0⟩, HS1, ⟨%d2, -, HS2⟩, HS3⟩, Hg⟩, -⟩
  isplitr [Hg]; swap; · iexact Hg
  isplitl [HS0]; · iexists _; iexact HS0
  isplitl [HS1]; · iexact HS1
  isplitl [HS2]; · iexists _; iexact HS2
  iexact HS3

/-! ## The run and the frame -/

-- `θ_run_frameP_track_forget`'s implicit arguments are found by unifying its conclusion with this one, which takes unfolding plain
-- definitions in a metavariable's type
set_option backward.isDefEq.respectTransparency.types false in
/-- THE LAUNCH: `run_mainV`'s statement, and every semaphore counter of the machine at zero at every final state. -/
theorem run_main_quiescentV (hO : Ok m) (hT : TblLe m) : θ_run defs (onTc (τ := τ) (main (F := F))) (s₀ m ρ) (fun r => (Pipeline.RDat.FramePost ((Pipeline.pin pcfgs fun _ => adm m hO) 0) (fun c => (datsV m hO 0 c).toRForget forgets1) (V m)) r ∧ r.2.sem = fun _ => 0) :=
  Pipeline.θ_run_frameP_track_forget (Q' := _) pcfgs (fun _ => adm m hO) (datsV m hO) (0 : Fin 1) launch0 defs₀ Variants.none forgets1 m ρ main
    (hbody := fun c => (body_obligationV m hO hT c).loose) (hshare := fun c => (datsV m hO 0 c).share_full fun _ => rfl)
    (howed := fun _ _ => rfl) (V := V m) (hmain := hmain m Variants.none) (hA := A_eqV m hO) (hpf := V_pre m) (hin := hinV m hO) (hout := houtV m hO)

/-- Every weakly fair execution of @main terminates with every input array of the pipeline unchanged and the second and third
    outputs at what the proof data says of them. -/
theorem run_mainV (hO : Ok m) (hT : TblLe m) : θ_run defs (onTc (τ := τ) (main (F := F))) (s₀ m ρ) (Pipeline.RDat.FramePost ((Pipeline.pin pcfgs fun _ => adm m hO) 0) (fun c => (datsV m hO 0 c).toRForget forgets1) (V m)) :=
  (θ_run defs _ _).mono (fun _ h => h.1) (run_main_quiescentV m ρ hO hT)

end Cert.KernelIdeal.Gen

end
-- ==== Proof.Value.Run.lean ====
/- The attention call's three results are the reference's attention, codes and scales. -/
module

public import proofs.«01_k».proof.Proof.Value.Same
public import proofs.«01_k».proof.Proof.KernelIdeal.FrameV

@[expose] public section

set_option maxRecDepth 65536

noncomputable section

namespace Cert.KernelIdeal.Gen

open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- Every query is at most the largest bfloat16. -/
def Bounded (c : Dev nD) : Prop := ∀ i : S5x56x1024x128.Idx,
  FloatOps.absf (F := Ideal) (φ := .f32) (m ((c.tc : Thread nD τ).loc main_arg0) i) ≤ Ideal.ofBits .f32 0x7F7F0000#32

/-- Every key is at most the largest bfloat16. -/
def KBounded (c : Dev nD) : Prop := ∀ i : S5x4x6144x128.Idx,
  FloatOps.absf (F := Ideal) (φ := .f32) (m ((c.tc : Thread nD τ).loc main_arg1) i) ≤ Ideal.ofBits .f32 0x7F7F0000#32

/-- Every length is at least one. -/
def TblGe : Prop := ∀ y, 1 ≤ (tbM0_0.view.read (Elt Ideal) (tbl m 0) y).toInt

theorem final5 (hO : Ok m) (c : Dev nD) (hq : Bounded m c) :
    (datsV m hO 0 c).arrAt 5 (cfgM m hO).N = Cert.ReferenceIdeal.Value.refv (m ((c.tc : Thread nD τ).loc main_arg0)) := by
  refine (datsV m hO 0 c).arrAt_eq_of_covers 5 _ (covers5 m hO) fun t hf y => ?_
  have hb0 : (grid0.coords t 0).val < 5 := (grid0.coords t 0).isLt
  have hb1 : (grid0.coords t 1).val < 56 := (grid0.coords t 1).isLt
  obtain ⟨n, r, hy⟩ := ix_tile y
  subst hy
  have he : (((cfgM m hO).win 5).blk t).view.emb (ix4 (0 : Fin 1) (0 : Fin 1) n r)
      = ix4 (grid0.coords t 0) (⟨(grid0.coords t 1).val / 2, by omega⟩ : Fin 28) n (⟨(grid0.coords t 1).val % 2 * 1024 + r.val, by omega⟩ : Fin 2048) := by
    blk_ext [idx5 m hO t]
  rw [he]
  refine Eq.trans ?_ (Cert.ReferenceIdeal.Value.refv_apply _ _ _ _ _).symm
  have q := qs_of (iblk m hO c 0 t) (m ((c.tc : Thread nD τ).loc main_arg0)) (grid0.coords t 0) (grid0.coords t 1) (iblk0_apply m hO c t) hq n r
  have e1 : (⟨(grid0.coords t 1).val / 2 * 2 + ((grid0.coords t 1).val % 2 * 1024 + r.val) / 1024, by omega⟩ : Fin 56) = grid0.coords t 1 :=
    Fin.ext (by show (grid0.coords t 1).val / 2 * 2 + ((grid0.coords t 1).val % 2 * 1024 + r.val) / 1024 = _; omega)
  have e2 : (⟨((grid0.coords t 1).val % 2 * 1024 + r.val) % 1024, by omega⟩ : Fin 1024) = r :=
    Fin.ext (by show ((grid0.coords t 1).val % 2 * 1024 + r.val) % 1024 = _; omega)
  rw [after0_5V]
  refine Eq.trans (Eq.trans ?_ q) (congrArg₂ (fun g r' => Cert.Scale.rscale (Cert.Scale.amax (m ((c.tc : Thread nD τ).loc main_arg0)) (grid0.coords t 0) g r' n)) e1 e2).symm
  rfl

theorem final4 (hO : Ok m) (c : Dev nD) (hq : Bounded m c) :
    (datsV m hO 0 c).arrAt 4 (cfgM m hO).N = Cert.ReferenceIdeal.Value.refc (m ((c.tc : Thread nD τ).loc main_arg0)) := by
  refine (datsV m hO 0 c).arrAt_eq_of_covers 4 _ (covers4 m hO) fun t hf y => ?_
  obtain ⟨r, d, hy⟩ := ix_codes y
  subst hy
  have he : (((cfgM m hO).win 4).blk t).view.emb (ix4 (0 : Fin 1) (0 : Fin 1) r d)
      = ix4 (grid0.coords t 0) (grid0.coords t 1) r d := by
    blk_ext [idx4 m hO t]
  rw [he]
  refine Eq.trans ?_ (Cert.ReferenceIdeal.Value.refc_apply _ (grid0.coords t 0) (grid0.coords t 1) r d).symm
  have q := qc_of (iblk m hO c 0 t) (m ((c.tc : Thread nD τ).loc main_arg0)) (grid0.coords t 0) (grid0.coords t 1) (iblk0_apply m hO c t) hq r d
  rw [after0_4V]
  refine Eq.trans ?_ q
  rfl

theorem tr1 : ∀ i : grid0.Coords, cc0_transform_1 i = ![(i 0).val, (i 1).val / 14, 0, 0] := by decide +kernel
theorem tr2 : ∀ i : grid0.Coords, cc0_transform_2 i = ![(i 0).val, (i 1).val / 14, 0, 0] := by decide +kernel
theorem tr3 : ∀ i : grid0.Coords, cc0_transform_3 i = ![(i 0).val, (i 1).val, 0, 0] := by decide +kernel

theorem idx1 (hO : Ok m) (t : Fin (cfgM m hO).N) : ((cfgM m hO).win 1).index t = ![(grid0.coords t 0).val, (grid0.coords t 1).val / 14, 0, 0] :=
  tr1 (grid0.coords t)
theorem idx2 (hO : Ok m) (t : Fin (cfgM m hO).N) : ((cfgM m hO).win 2).index t = ![(grid0.coords t 0).val, (grid0.coords t 1).val / 14, 0, 0] :=
  tr2 (grid0.coords t)
theorem idx3 (hO : Ok m) (t : Fin (cfgM m hO).N) : ((cfgM m hO).win 3).index t = ![(grid0.coords t 0).val, (grid0.coords t 1).val, 0, 0] :=
  tr3 (grid0.coords t)

theorem covers3 (hO : Ok m) : ((cfgM m hO).win 3).Covers :=
  ((cfgM m hO).win 3).covers_of_index_surj rfl (show ∀ a : Fin 4, 0 < S1x1x1024x128.size a by decide) fun β => by
    have h0 : (β (0 : Fin 4)).val < 5 := lt_of_lt_of_eq (β (0 : Fin 4)).isLt (show ((cfgM m hO).win 3).nblk (0 : Fin 4) = 5 by with_unfolding_all rfl)
    have h1 : (β (1 : Fin 4)).val < 56 := lt_of_lt_of_eq (β (1 : Fin 4)).isLt (show ((cfgM m hO).win 3).nblk (1 : Fin 4) = 56 by with_unfolding_all rfl)
    have h2 : (β (2 : Fin 4)).val < 1 := lt_of_lt_of_eq (β (2 : Fin 4)).isLt (show ((cfgM m hO).win 3).nblk (2 : Fin 4) = 1 by with_unfolding_all rfl)
    have h3 : (β (3 : Fin 4)).val < 1 := lt_of_lt_of_eq (β (3 : Fin 4)).isLt (show ((cfgM m hO).win 3).nblk (3 : Fin 4) = 1 by with_unfolding_all rfl)
    let i : grid0.Coords := fun a => match a with
      | ⟨0, _⟩ => ⟨(β (0 : Fin 4)).val, h0⟩
      | ⟨1, _⟩ => ⟨(β (1 : Fin 4)).val, h1⟩
    obtain ⟨t, ht⟩ := grid0.coords_surjective i
    refine ⟨t, fun a => ?_⟩
    rw [idx3 m hO t, ht]
    match a with
    | ⟨0, _⟩ => rfl
    | ⟨1, _⟩ => rfl
    | ⟨2, _⟩ => show 0 = (β (2 : Fin 4)).val; omega
    | ⟨3, _⟩ => show 0 = (β (3 : Fin 4)).val; omega

/-- The keys and values of a tile are those of its key head. -/
theorem iblk1_apply (hO : Ok m) (c : Dev nD) (t : Fin (cfgM m hO).N) (p : Fin 6144) (d : Fin 128) :
    iblk m hO c 1 t (ix4 (0 : Fin 1) (0 : Fin 1) p d) = m ((c.tc : Thread nD τ).loc main_arg1) (ix4 (grid0.coords t 0) (Cert.ReferenceIdeal.Value.khead (grid0.coords t 1)) p d) := by
  blk_ext [iblk, V, idx1 m hO t, Cert.ReferenceIdeal.Value.khead]
theorem iblk2_apply (hO : Ok m) (c : Dev nD) (t : Fin (cfgM m hO).N) (d : Fin 128) (p : Fin 6144) :
    iblk m hO c 2 t (ix4 (0 : Fin 1) (0 : Fin 1) d p) = m ((c.tc : Thread nD τ).loc main_arg2) (ix4 (grid0.coords t 0) (Cert.ReferenceIdeal.Value.khead (grid0.coords t 1)) d p) := by
  blk_ext [iblk, V, idx2 m hO t, Cert.ReferenceIdeal.Value.khead]

/-- The length of a tile is its batch entry's. -/
theorem lenN_apply (hO : Ok m) (c : Dev nD) (t : Fin (cfgM m hO).N) : lenN (F := Ideal) m t.val = m ((c.tc : Thread nD τ).loc main_arg3) (ix1 (grid0.coords t 0)) := by
  obtain rfl : c = 0 := Subsingleton.elim _ _
  have e0 : (⟨t.val / 56 % 5, Nat.mod_lt _ (by decide)⟩ : Fin 5) = grid0.coords t 0 := Fin.ext (coord0 t).symm
  unfold lenN
  rw [e0]
  generalize grid0.coords t 0 = z
  show m _ _ = m _ _
  refine congrArg (m (((0 : Dev nD).tc : Thread nD τ).loc main_arg3)) (funext fun a => ?_)
  match a with
  | ⟨0, _⟩ => rfl

theorem final3 (hO : Ok m) (hT : TblLe m) (hG : TblGe m) (c : Dev nD) (hq : Bounded m c) (hk : KBounded m c) :
    (datsV m hO 0 c).arrAt 3 (cfgM m hO).N = Cert.ReferenceIdeal.Value.refo (m ((c.tc : Thread nD τ).loc main_arg0)) (m ((c.tc : Thread nD τ).loc main_arg1)) (m ((c.tc : Thread nD τ).loc main_arg2)) (m ((c.tc : Thread nD τ).loc main_arg3)) := by
  refine (datsV m hO 0 c).arrAt_eq_of_covers 3 _ (covers3 m hO) fun t hf y => ?_
  obtain ⟨r, d, hy⟩ := ix_codes y
  subst hy
  have he : (((cfgM m hO).win 3).blk t).view.emb (ix4 (0 : Fin 1) (0 : Fin 1) r d)
      = ix4 (grid0.coords t 0) (grid0.coords t 1) r d := by
    blk_ext [idx3 m hO t]
  rw [he]
  have q := out_ref (iblk m hO c 0 t) (iblk m hO c 1 t) (iblk m hO c 2 t) (lenN (F := Ideal) m t.val) (m ((c.tc : Thread nD τ).loc main_arg0)) (m ((c.tc : Thread nD τ).loc main_arg1)) (m ((c.tc : Thread nD τ).loc main_arg2)) (m ((c.tc : Thread nD τ).loc main_arg3))
    (grid0.coords t 0) (grid0.coords t 1) (iblk0_apply m hO c t) (iblk1_apply m hO c t) (iblk2_apply m hO c t) (lenN_apply m hO c t) (hG _) (hT _) hq hk r d
  rw [after0_3V]
  refine Eq.trans ?_ q
  unfold outAt
  generalize outOf (F := Ideal) (iblk m hO c 1 t) (iblk m hO c 2 t) (k0_pay8 (F := Ideal) (lenN (F := Ideal) m t.val)) (qside (iblk m hO c 0 t)) (chunks (lenN (F := Ideal) m t.val)) = z
  rfl

/-- The run, read: the three results at the reference's attention, codes and scales, the arguments unchanged. -/
theorem run_value (hO : Ok m) (hT : TblLe m) (hG : TblGe m) (hq : ∀ c, Bounded m c) (hk : ∀ c, KBounded m c) : θ_run defs (onTc (τ := τ) (main (F := Ideal))) ⟨m, fun _ => 0, ρ⟩ (fun r => ∀ c : Dev nD,
      r.2.mem ((c.tc : Thread nD τ).loc main_v0_0) = Cert.ReferenceIdeal.Value.refo (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = Cert.ReferenceIdeal.Value.refc (m ((c.tc : Thread nD τ).loc main_arg0))
      ∧ r.2.mem ((c.tc : Thread nD τ).loc main_v0_2) = Cert.ReferenceIdeal.Value.refv (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(((datsV m hO 0 c).toRForget_arrAt_iff (fgt := forgets1) (w := 3) rfl _ _).mp ((h.1 c).1 3)).trans (final3 m hO hT hG c (hq c) (hk c)),
    (((datsV m hO 0 c).toRForget_arrAt_iff (fgt := forgets1) (w := 4) rfl _ _).mp ((h.1 c).1 4)).trans (final4 m hO c (hq c)),
    (((datsV m hO 0 c).toRForget_arrAt_iff (fgt := forgets1) (w := 5) rfl _ _).mp ((h.1 c).1 5)).trans (final5 m hO c (hq c)), h.2 c⟩)
    (θ_run_and (run_mainV m ρ hO hT) (unchanged m ρ hO (TblLe.ok m hT)))

end Cert.KernelIdeal.Gen
end
-- ==== Proof.Value.RefV.lean ====
/- The reference's run: what its last operation starts from, and its three results. -/
module

public import proofs.«01_k».proof.Proof.Value.RefAttn
public import proofs.«01_k».proof.Proof.Gen.ReferenceIdeal.Value
public import Idealize.ShloMosaic.Lib.Claim
public import Idealize.ShloMosaic.Lib.Pipeline.ValueKit
public import Idealize.ShloMosaic.Lib.Pipeline.Covers

@[expose] public section

set_option maxRecDepth 65536

noncomputable section

namespace Cert.ReferenceIdeal.Gen

open Idealize.ShloMosaic Idealize.ShloMosaic.TcCoe
open Idealize.SL Idealize.SL.Sem
open Idealize.ShloMosaic.Pipeline (Dat)
open Cert.ReferenceIdeal.Facts₀ Cert.ReferenceIdeal.Facts

variable (m : (ℓ : Loc nD τ sig) → Buf (Elt Ideal) ℓ) (ρ : Dev nD → PrngReg)

set_option maxHeartbeats 2000000 in
/-- The scales the host has computed. -/
theorem v16 (c : Dev nD) : V m c main_v16 = Cert.ReferenceIdeal.Value.refv (m ((c.tc : Thread nD τ).loc main_arg0)) := by
  unfold Cert.ReferenceIdeal.Value.refv Cert.ReferenceIdeal.Value.refs
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results <;> rfl

set_option maxHeartbeats 2000000 in
/-- The codes the host has computed. -/
theorem v25 (c : Dev nD) : V m c main_v25 = Cert.ReferenceIdeal.Value.refc (m ((c.tc : Thread nD τ).loc main_arg0)) := by
  unfold Cert.ReferenceIdeal.Value.refc Cert.ReferenceIdeal.Value.clipped Cert.ReferenceIdeal.Value.refs
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results <;> rfl

set_option maxHeartbeats 4000000 in
/-- The attention the host has computed. -/
theorem v61 (c : Dev nD) : V m c main_v61 = Cert.ReferenceIdeal.Value.refo (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.refo Cert.ReferenceIdeal.Value.refm Cert.ReferenceIdeal.Value.outs Cert.ReferenceIdeal.Value.vals Cert.ReferenceIdeal.Value.cods Cert.ReferenceIdeal.Value.tots Cert.ReferenceIdeal.Value.wgts Cert.ReferenceIdeal.Value.tops Cert.ReferenceIdeal.Value.msks Cert.ReferenceIdeal.Value.scrs Cert.ReferenceIdeal.Value.deqs Cert.ReferenceIdeal.Value.clipped Cert.ReferenceIdeal.Value.refs
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results <;> rfl

theorem idx1 : ∀ t : Fin cfg0.N, (cfg0.win 1).index t = ![0, 0, 0, 0] := by decide +kernel

theorem idx0 : ∀ t : Fin cfg0.N, (cfg0.win 0).index t = ![0, 0, 0, 0] := by decide +kernel

theorem covers1 : (cfg0.win 1).Covers :=
  (cfg0.win 1).covers_of_index_surj rfl (show ∀ a : Fin 4, 0 < S5x56x1024x128.size a by decide) fun β => by
    have h0 : (β (0 : Fin 4)).val < 1 := lt_of_lt_of_eq (β (0 : Fin 4)).isLt (show (cfg0.win 1).nblk (0 : Fin 4) = 1 by with_unfolding_all rfl)
    have h1 : (β (1 : Fin 4)).val < 1 := lt_of_lt_of_eq (β (1 : Fin 4)).isLt (show (cfg0.win 1).nblk (1 : Fin 4) = 1 by with_unfolding_all rfl)
    have h2 : (β (2 : Fin 4)).val < 1 := lt_of_lt_of_eq (β (2 : Fin 4)).isLt (show (cfg0.win 1).nblk (2 : Fin 4) = 1 by with_unfolding_all rfl)
    have h3 : (β (3 : Fin 4)).val < 1 := lt_of_lt_of_eq (β (3 : Fin 4)).isLt (show (cfg0.win 1).nblk (3 : Fin 4) = 1 by with_unfolding_all rfl)
    obtain ⟨t, -⟩ := grid0.coords_surjective (fun a => absurd a.isLt (Nat.not_lt_zero _))
    refine ⟨t, fun a => ?_⟩
    rw [idx1]
    match a with
    | ⟨0, _⟩ => show 0 = (β (0 : Fin 4)).val; omega
    | ⟨1, _⟩ => show 0 = (β (1 : Fin 4)).val; omega
    | ⟨2, _⟩ => show 0 = (β (2 : Fin 4)).val; omega
    | ⟨3, _⟩ => show 0 = (β (3 : Fin 4)).val; omega

theorem iblk_apply (c : Dev nD) (t : Fin cfg0.N) (b : Fin 5) (g : Fin 56) (r : Fin 1024) (d : Fin 128) :
    iblk m c 0 t (ix4 b g r d) = V m c main_v25 (ix4 b g r d) := by
  generalize hz : V m c main_v25 = z
  have e : (((cfg0.win 0).blk t).view.emb (ix4 b g r d)) = ix4 b g r d := by
    blk_ext [idx0 t]
  show V m c main_v25 (((cfg0.win 0).blk t).view.emb (ix4 b g r d)) = _
  rw [e, hz]

theorem ix_all (y : S5x56x1024x128.Idx) : ∃ (b : Fin 5) (g : Fin 56) (r : Fin 1024) (d : Fin 128), y = ix4 b g r d :=
  ⟨y 0, y 1, y 2, y 3, by blk_ext⟩

theorem out_apply (z : Vec Ideal S5x56x1024x128 .bf16) (b : Fin 5) (g : Fin 56) (r : Fin 1024) (d : Fin 128) :
    out0_1 (F := Ideal) z (ix4 b g r d) = z (ix4 b g r d) := by
  unfold out0_1
  refine (Cert.ReferenceIdeal.Value.canon1_eq (View.ld z r0_0) (ix4 b g r d)).trans ?_
  show z (r0_0.idx (Cert.ReferenceIdeal.Value.ix1_0 (ix4 b g r d))) = z (ix4 b g r d)
  refine congrArg z (funext fun a => Fin.ext ?_)
  match a with
  | ⟨0, _⟩ => show 0 + 1 * b.val = b.val; omega
  | ⟨1, _⟩ => show 0 + 1 * g.val = g.val; omega
  | ⟨2, _⟩ => show 0 + 1 * r.val = r.val; omega
  | ⟨3, _⟩ => show 0 + 1 * d.val = d.val; omega

theorem iblk_codes (c : Dev nD) (t : Fin cfg0.N) (b : Fin 5) (g : Fin 56) (r : Fin 1024) (d : Fin 128) :
    iblk m c 0 t (ix4 b g r d) = Cert.ReferenceIdeal.Value.refc (m ((c.tc : Thread nD τ).loc main_arg0)) (ix4 b g r d) :=
  (iblk_apply m c t b g r d).trans (congrFun (v25 m c) (ix4 b g r d))

/-- The last operation narrows the codes, and over the reals that changes nothing. -/
theorem final1 (c : Dev nD) : (dats m 0 c).arrAt 1 cfg0.N = Cert.ReferenceIdeal.Value.refc (m ((c.tc : Thread nD τ).loc main_arg0)) := by
  refine (dats m 0 c).arrAt_eq_of_covers 1 _ covers1 fun t hf y => ?_
  obtain ⟨b, g, r, d, hy⟩ := ix_all y
  subst hy
  have he : ((cfg0.win 1).blk t).view.emb (ix4 b g r d) = ix4 b g r d := by
    blk_ext [idx1 t]
  rw [he]
  refine Eq.trans ?_ (iblk_codes m c t b g r d)
  refine Eq.trans ?_ (out_apply (iblk m c 0 t) b g r d)
  rw [after0_1]
  generalize out0_1 (iblk m c 0 t) = z
  refine (cast_eq _ _).trans (congrArg z (funext fun a => Fin.ext ?_))
  match a with
  | ⟨0, _⟩ => rfl
  | ⟨1, _⟩ => rfl
  | ⟨2, _⟩ => rfl
  | ⟨3, _⟩ => rfl

/-- The run, read: the attention, the codes and the scales, the arguments unchanged. -/
theorem run_value : θ_run defs (onTc (τ := τ) (main (F := Ideal))) ⟨m, fun _ => 0, ρ⟩ (fun r => ∀ c : Dev nD,
      r.2.mem ((c.tc : Thread nD τ).loc main_v61) = Cert.ReferenceIdeal.Value.refo (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v62) = Cert.ReferenceIdeal.Value.refc (m ((c.tc : Thread nD τ).loc main_arg0))
      ∧ r.2.mem ((c.tc : Thread nD τ).loc main_v16) = Cert.ReferenceIdeal.Value.refv (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_v61 (Pipeline.mem_restRefs_of main_v61 (by decide) (by decide))).trans (v61 m c),
      (Cert.ReferenceIdeal.Value.post1 m r h c).trans (final1 m c),
      ((h c).2 main_v16 (Pipeline.mem_restRefs_of main_v16 (by decide) (by decide))).trans (v16 m c),
      Cert.ReferenceIdeal.Value.kept_main_arg0 m r h c, Cert.ReferenceIdeal.Value.kept_main_arg1 m r h c, Cert.ReferenceIdeal.Value.kept_main_arg2 m r h c, Cert.ReferenceIdeal.Value.kept_main_arg3 m r h c⟩)
    (run_main m ρ)

end Cert.ReferenceIdeal.Gen
end
-- ==== Proof.Value.Claim.lean ====
/- What the precondition says of the lengths and the queries, and the two runs side by side. -/
module

public import proofs.«01_k».proof.Defs
public import proofs.«01_k».proof.Proof.Value.Run
public import proofs.«01_k».proof.Proof.KernelIdeal.Chk
public import proofs.«01_k».proof.Proof.Gen.Pre_finite
public import proofs.«01_k».proof.Proof.Gen.ReferenceIdeal
public import proofs.«01_k».proof.Proof.Value.RefV

@[expose] public section

set_option maxRecDepth 65536

noncomputable section

namespace Cert.Value

open Idealize.ShloMosaic Idealize.ShloMosaic.TcCoe
open Idealize.SL Idealize.SL.Sem

section
variable [Cert.Pre_finite.Facts]

/-- The queries and the keys, one after the other. -/
def both (q : FVec Ideal Cert.Pre_finite.S5x56x1024x128 .bf16) (k : FVec Ideal Cert.Pre_finite.S5x4x6144x128 .bf16) : FVec Ideal Cert.Pre_finite.S5x80x1024x128 .bf16 :=
  concatenate Cert.Pre_finite.S5x80x1024x128 1 [⟨Cert.Pre_finite.S5x56x1024x128, q⟩, ⟨Cert.Pre_finite.S5x24x1024x128, shapeCast Cert.Pre_finite.S5x24x1024x128 k Cert.Pre_finite.Facts.shapeCasts_S5x4x6144x128_S5x24x1024x128⟩]
    Cert.Pre_finite.Facts.concatenates_S5x56x1024x128_S5x24x1024x128_S5x80x1024x128_d1

theorem both_apply (q : FVec Ideal Cert.Pre_finite.S5x56x1024x128 .bf16) (k : FVec Ideal Cert.Pre_finite.S5x4x6144x128 .bf16) (b : Fin 5) (g : Fin 80) (r : Fin 1024) (d : Fin 128) :
    both q k (ix4 b g r d) = if h : g.val < 56 then q (ix4 b (⟨g.val, h⟩ : Fin 56) r d)
      else k (ix4 b (⟨(g.val - 56) / 6, by omega⟩ : Fin 4) (⟨(g.val - 56) % 6 * 1024 + r.val, by omega⟩ : Fin 6144) d) := by
  unfold both
  pointwise

/-- What the precondition says at a place. -/
theorem pre_apply (q : FVec Ideal Cert.Pre_finite.S5x56x1024x128 .bf16) (k : FVec Ideal Cert.Pre_finite.S5x4x6144x128 .bf16) (v : FVec Ideal Cert.Pre_finite.S5x4x128x6144 .bf16)
    (l : IVec Cert.Pre_finite.S5 32) (h : Cert.Pre_finite.fn q k v l = fun _ => 1#1) (b : Fin 5) (g : Fin 80) (r : Fin 1024) (d : Fin 128) :
    (1 ≤ (l (ix1 b) : BitVec 32).toInt ∧ (l (ix1 b) : BitVec 32).toInt ≤ 6144)
      ∧ FloatOps.absf (F := Ideal) (φ := .f32) (both q k (ix4 b g r d)) ≤ Ideal.ofBits .f32 0x7F7F0000#32 := by
  have ofBool_eq_one (p : Bool) : (BitVec.ofBool p = 1#1) ↔ p = true := by cases p <;> decide
  have and_one (a b : BitVec 1) : a &&& b = 1#1 → a = 1#1 ∧ b = 1#1 := by revert a b; decide
  have e := congrFun h (ix4 b g r d)
  obtain ⟨e1, e2⟩ := and_one _ _ e
  obtain ⟨e3, e4⟩ := and_one _ _ e1
  have ei : ∀ z : Cert.Pre_finite.S5.Idx, z 0 = b → l z = l (ix1 b) := by
    intro z hz
    refine congrArg l (funext fun a => ?_)
    match a with
    | ⟨0, _⟩ => exact hz
  refine ⟨⟨?_, ?_⟩, ?_⟩
  · have f : (1#32 : BitVec 32).sle (l (ix1 b)) = true := by
      rw [← (ofBool_eq_one _).mp e3]
      exact congrArg (fun z : BitVec 32 => (1#32 : BitVec 32).sle z) (ei _ rfl).symm
    simpa [BitVec.sle] using f
  · have f : (l (ix1 b) : BitVec 32).sle 6144#32 = true := by
      rw [← (ofBool_eq_one _).mp e4]
      exact congrArg (fun z : BitVec 32 => z.sle 6144#32) (ei _ rfl).symm
    simpa [BitVec.sle] using f
  · have e5 : Ideal.cmp .ole (FloatOps.absf (F := Ideal) (φ := .f32) (both q k (ix4 b g r d))) (Ideal.ofBits .f32 0x7F7F0000#32) = 1#1 := e2
    unfold Ideal.cmp at e5
    simpa [ofBool_eq_one] using e5

end

open Cert.KernelIdeal

theorem len_of_finite [Cert.Pre_finite.Facts] (m : (ℓ : Loc nD τ sig) → Buf (Elt Ideal) ℓ) (h : Cert.Pre_KernelIdeal_finite m) :
    ∀ y, 1 ≤ (Cert.KernelIdeal.Gen.tbM0_0.view.read (Elt Ideal) (Cert.KernelIdeal.Gen.tbl m 0) y).toInt ∧ (Cert.KernelIdeal.Gen.tbM0_0.view.read (Elt Ideal) (Cert.KernelIdeal.Gen.tbl m 0) y).toInt ≤ 6144 := by
  intro y
  have e : y = ix1 (y 0) := by
    funext a
    match a with
    | ⟨0, _⟩ => rfl
  have hb := (pre_apply _ _ _ _ (h 0) (y 0) 0 0 0).1
  rw [e]
  exact hb

theorem tblLe_of_finite [Cert.Pre_finite.Facts] (m : (ℓ : Loc nD τ sig) → Buf (Elt Ideal) ℓ) (h : Cert.Pre_KernelIdeal_finite m) : Cert.KernelIdeal.Gen.TblLe m :=
  fun y => (len_of_finite m h y).2

theorem tblGe_of_finite [Cert.Pre_finite.Facts] (m : (ℓ : Loc nD τ sig) → Buf (Elt Ideal) ℓ) (h : Cert.Pre_KernelIdeal_finite m) : Cert.KernelIdeal.Gen.TblGe m :=
  fun y => (len_of_finite m h y).1

theorem tblOk_of_finite [Cert.Pre_finite.Facts] (m : (ℓ : Loc nD τ sig) → Buf (Elt Ideal) ℓ) (h : Cert.Pre_KernelIdeal_finite m) : Cert.KernelIdeal.Gen.TblOk m :=
  Cert.KernelIdeal.Gen.TblLe.ok m (tblLe_of_finite m h)

theorem bounded_of_finite [Cert.Pre_finite.Facts] (m : (ℓ : Loc nD τ sig) → Buf (Elt Ideal) ℓ) (h : Cert.Pre_KernelIdeal_finite m) (c : Dev nD) :
    Cert.KernelIdeal.Gen.Bounded m c := by
  intro i
  obtain ⟨b, g, r, d, rfl⟩ : ∃ (b : Fin 5) (g : Fin 56) (r : Fin 1024) (d : Fin 128), i = ix4 b g r d := ⟨i 0, i 1, i 2, i 3, by blk_ext⟩
  have e := (pre_apply _ _ _ _ (h c) b (⟨g.val, by omega⟩ : Fin 80) r d).2
  rw [both_apply, dif_pos (show (⟨g.val, by omega⟩ : Fin 80).val < 56 from g.isLt)] at e
  exact e

theorem kbounded_of_finite [Cert.Pre_finite.Facts] (m : (ℓ : Loc nD τ sig) → Buf (Elt Ideal) ℓ) (h : Cert.Pre_KernelIdeal_finite m) (c : Dev nD) :
    Cert.KernelIdeal.Gen.KBounded m c := by
  intro i
  obtain ⟨b, n, p, d, rfl⟩ : ∃ (b : Fin 5) (n : Fin 4) (p : Fin 6144) (d : Fin 128), i = ix4 b n p d := ⟨i 0, i 1, i 2, i 3, by blk_ext⟩
  have e := (pre_apply _ _ _ _ (h c) b (⟨56 + n.val * 6 + p.val / 1024, by omega⟩ : Fin 80) (⟨p.val % 1024, by omega⟩ : Fin 1024) d).2
  rw [both_apply, dif_neg (show ¬ (56 + n.val * 6 + p.val / 1024 < 56) by omega)] at e
  have e1 : (⟨(56 + n.val * 6 + p.val / 1024 - 56) / 6, by omega⟩ : Fin 4) = n := Fin.ext (by show (56 + n.val * 6 + p.val / 1024 - 56) / 6 = n.val; omega)
  have e2 : (⟨(56 + n.val * 6 + p.val / 1024 - 56) % 6 * 1024 + p.val % 1024, by omega⟩ : Fin 6144) = p :=
    Fin.ext (by show (56 + n.val * 6 + p.val / 1024 - 56) % 6 * 1024 + p.val % 1024 = p.val; omega)
  rw [e1, e2] at e
  exact e

/-- The reference runs, its arguments unchanged and every counter at zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  Cert.ReferenceIdeal.Gen.frame m g

theorem refo_congr {q q' : FVec Ideal Cert.ReferenceIdeal.S5x56x1024x128 .bf16} {k k' : FVec Ideal Cert.ReferenceIdeal.S5x4x6144x128 .bf16} {v v' : FVec Ideal Cert.ReferenceIdeal.S5x4x128x6144 .bf16} {l l' : IVec Cert.ReferenceIdeal.S5 32}
    (hq : q' = q) (hk : k' = k) (hv : v' = v) (hl : l' = l) : Cert.ReferenceIdeal.Value.refo q' k' v' l' = Cert.ReferenceIdeal.Value.refo q k v l := by
  subst hq hk hv hl; rfl

/-- The attention call's three results are the reference's. -/
theorem algebraic : Cert.algebraic_KernelIdeal_ReferenceIdeal_pre_finite := fun m g m' g' h hagree =>
  ⟨fun c => Cert.ReferenceIdeal.Value.refo (m ((c.tc : Thread nD τ).loc main_arg0)) (m ((c.tc : Thread nD τ).loc main_arg1)) (m ((c.tc : Thread nD τ).loc main_arg2)) (m ((c.tc : Thread nD τ).loc main_arg3)),
    fun c => Cert.ReferenceIdeal.Value.refc (m ((c.tc : Thread nD τ).loc main_arg0)),
    fun c => Cert.ReferenceIdeal.Value.refv (m ((c.tc : Thread nD τ).loc main_arg0)),
    Cert.KernelIdeal.Gen.run_value m g trivial (tblLe_of_finite m h) (tblGe_of_finite m h) (bounded_of_finite m h) (kbounded_of_finite m h),
    (θ_run (Cert.ReferenceIdeal.defs (F := Ideal)) _ _).mono (fun r hr c => ⟨(hr c).1.trans (refo_congr (hagree c).1 (hagree c).2.1 (hagree c).2.2.1 (hagree c).2.2.2),
      (hr c).2.1.trans (congrArg Cert.ReferenceIdeal.Value.refc (hagree c).1),
      (hr c).2.2.1.trans (congrArg Cert.ReferenceIdeal.Value.refv (hagree c).1), (hr c).2.2.2⟩)
      (Cert.ReferenceIdeal.Gen.run_value m' g')⟩

end Cert.Value
end
-- ==== Proof.lean ====
/- The certificate's claim: the attention call runs and leaves its arguments as they were, over machine numbers and over the
   reals, and the named constants are what they are said to be. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Pre_in_range
public import proofs.«01_k».proof.Proof.Gen.Pre_finite
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Value
public import proofs.«01_k».proof.Proof.Kernel.Chk
public import proofs.«01_k».proof.Proof.KernelIdeal.Chk
public import proofs.«01_k».proof.Proof.Value.Claim

@[expose] public section

noncomputable section

open Idealize.ShloMosaic

theorem Cert.Proof.preserves : Cert.preserves_Kernel_KernelIdeal :=
  ⟨IdealRules.named_const.statement Cert.KernelIdeal.κ "mask" .f32 0xFF000000#32 ⊥ rfl,
    IdealRules.named_const.statement Cert.KernelIdeal.κ "exp2_scale" .f32 0x3E0293EE#32
      (((Real.sqrt 128)⁻¹ * (Real.log 2)⁻¹ : ℝ) : EReal) rfl⟩

theorem Cert.Proof.claim : Cert.Claim :=
  ⟨Cert.Kernel.Gen.facts, Cert.KernelIdeal.Gen.facts, Cert.ReferenceIdeal.Gen.facts, Cert.Pre_in_range.Gen.facts, Cert.Pre_finite.Gen.facts,
    fun m ρ h => Cert.Kernel.Gen.frame m ρ trivial (Cert.Kernel.Gen.tblOk_of_pre m h),
    fun m ρ h => Cert.KernelIdeal.Gen.frame m ρ trivial (Cert.KernelIdeal.Gen.tblOk_of_pre m h),
    fun m ρ h => Cert.KernelIdeal.Gen.frame m ρ trivial (Cert.Value.tblOk_of_finite m h),
    fun m ρ _ => Cert.Value.frame_reference m ρ,
    fun m ρ _ => Cert.Value.frame_reference m ρ,
    Cert.Proof.preserves,
    Cert.Value.algebraic⟩

end
